-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_quantised [hPre_quantised : Cert.Pre_quantised.Facts] (m : (ℓ : Loc Cert.KernelIdeal.nD Cert.KernelIdeal.τ Cert.KernelIdeal.sig) → Buf (Elt Ideal) ℓ) : Prop :=
  ∀ c : Dev Cert.KernelIdeal.nD,
    (Cert.Pre_quantised.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1)
    ∧ (Cert.Pre_quantised.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_quantised [hPre_quantised : Cert.Pre_quantised.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_quantised.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).1 = (fun _ => 1#1)
    ∧ (Cert.Pre_quantised.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_quantised [hKernelIdeal : Cert.KernelIdeal.Facts] [hPre_quantised : Cert.Pre_quantised.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_quantised m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_quantised [hReferenceIdeal : Cert.ReferenceIdeal.Facts] [hPre_quantised : Cert.Pre_quantised.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_quantised m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_pre_quantised [hKernelIdeal : Cert.KernelIdeal.Facts] [hReferenceIdeal : Cert.ReferenceIdeal.Facts] [hPre_quantised : Cert.Pre_quantised.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_quantised m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v130) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_quantised : Cert.Pre_quantised.Facts),
    quiescent_Kernel (hKernel := hKernel)
    ∧ quiescent_KernelIdeal (hKernelIdeal := hKernelIdeal)
    ∧ quiescent_KernelIdeal_pre_quantised (hKernelIdeal := hKernelIdeal) (hPre_quantised := hPre_quantised)
    ∧ quiescent_ReferenceIdeal (hReferenceIdeal := hReferenceIdeal)
    ∧ quiescent_ReferenceIdeal_pre_quantised (hReferenceIdeal := hReferenceIdeal) (hPre_quantised := hPre_quantised)
    ∧ preserves_Kernel_KernelIdeal
    ∧ algebraic_KernelIdeal_ReferenceIdeal_pre_quantised (hKernelIdeal := hKernelIdeal) (hReferenceIdeal := hReferenceIdeal) (hPre_quantised := hPre_quantised)
-- ==== Pre_quantised.lean ====
abbrev S6x8x6144 : Shape := ⟨3, ![6, 8, 6144]⟩
abbrev S_ : Shape := ⟨0, ![]⟩
abbrev S16384x3072 : Shape := ⟨2, ![16384, 3072]⟩
abbrev S16384 : Shape := ⟨1, ![16384]⟩

class Facts : Prop where
  bcast_S_S16384 : S_.BroadcastsInDim S16384 (![] : Fin 0 → Fin S16384.rank)

variable [Facts]

def fn {F : FTy → Type} [FloatOps F] (main_arg0 : IVec S6x8x6144 8) (main_arg1 : IVec S_ 32) (main_arg2 : IVec S16384x3072 8) (main_arg3 : IVec S16384 32) (main_arg4 : IVec S16384 32) (main_arg5 : IVec S16384 32) (main_arg6 : IVec S_ 32) (main_arg7 : IVec S_ 32) (main_arg8 : IVec S_ 32) : IVec S_ 1 × IVec S16384 1 :=
  let main_c : IVec S_ 32 := constantI S_ 32 4294967168#32
  let main_v0 : IVec S_ 1 := cmpi .sge main_arg1 main_c
  let main_c_0 : IVec S_ 32 := constantI S_ 32 127#32
  let main_v1 : IVec S_ 1 := cmpi .sle main_arg1 main_c_0
  let main_v2 : IVec S_ 1 := andi main_v0 main_v1
  let main_c_1 : IVec S_ 32 := constantI S_ 32 0#32
  let main_v3 : IVec S16384 32 := broadcastInDim S16384 ![] bcast_S_S16384 main_c_1
  let main_v4 : IVec S16384 1 := cmpi .sge main_arg4 main_v3
  (main_v2, main_v4)
-- ==== Kernel.lean ====
abbrev S6x8x6144 : Shape := ⟨3, ![6, 8, 6144]⟩
abbrev S_ : Shape := ⟨0, ![]⟩
abbrev S16384x3072 : Shape := ⟨2, ![16384, 3072]⟩
abbrev S16384 : Shape := ⟨1, ![16384]⟩
abbrev S48x3072x2 : Shape := ⟨3, ![48, 3072, 2]⟩
abbrev S48 : Shape := ⟨1, ![48]⟩
abbrev S48x1 : Shape := ⟨2, ![48, 1]⟩
abbrev S48x128 : Shape := ⟨2, ![48, 128]⟩
abbrev S1 : Shape := ⟨1, ![1]⟩
abbrev S3 : Shape := ⟨1, ![3]⟩
abbrev S48x3072x1 : Shape := ⟨3, ![48, 3072, 1]⟩
abbrev S48x3072 : Shape := ⟨2, ![48, 3072]⟩
abbrev S1x16384 : Shape := ⟨2, ![1, 16384]⟩
abbrev S48x16384 : Shape := ⟨2, ![48, 16384]⟩
abbrev S512x3072 : Shape := ⟨2, ![512, 3072]⟩
abbrev S1x512 : Shape := ⟨2, ![1, 512]⟩
abbrev S48x512 : Shape := ⟨2, ![48, 512]⟩
abbrev S128x3072 : Shape := ⟨2, ![128, 3072]⟩
abbrev S6x8x16384 : Shape := ⟨3, ![6, 8, 16384]⟩

abbrev nBuf : Space → Nat
  | .hbm => 38
  | .vmem => 13
  | .smem => 1
  | _ => 0

abbrev bufTy : (tb : Table) → Fin (tcTables nBuf tb) → BufTy
  | .hbm, ⟨0, _⟩ => ⟨S6x8x6144, .i8⟩
  | .hbm, ⟨1, _⟩ => ⟨S_, .i32⟩
  | .hbm, ⟨2, _⟩ => ⟨S16384x3072, .i8⟩
  | .hbm, ⟨3, _⟩ => ⟨S16384, .i32⟩
  | .hbm, ⟨4, _⟩ => ⟨S16384, .i32⟩
  | .hbm, ⟨5, _⟩ => ⟨S16384, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S48x3072x2, .i8⟩
  | .hbm, ⟨10, _⟩ => ⟨S48x3072x2, .i32⟩
  | .hbm, ⟨11, _⟩ => ⟨S48x3072x2, .i32⟩
  | .hbm, ⟨12, _⟩ => ⟨S48x3072x2, .i32⟩
  | .hbm, ⟨13, _⟩ => ⟨S_, .i32⟩
  | .hbm, ⟨14, _⟩ => ⟨S48, .i32⟩
  | .hbm, ⟨15, _⟩ => ⟨S48x1, .i32⟩
  | .hbm, ⟨16, _⟩ => ⟨S_, .i32⟩
  | .hbm, ⟨17, _⟩ => ⟨S48x1, .i32⟩
  | .hbm, ⟨18, _⟩ => ⟨S48x1, .i32⟩
  | .hbm, ⟨19, _⟩ => ⟨S48x128, .i32⟩
  | .hbm, ⟨20, _⟩ => ⟨S48x3072x2, .f32⟩
  | .hbm, ⟨21, _⟩ => ⟨S_, .f32⟩
  | .hbm, ⟨22, _⟩ => ⟨S48x3072x2, .f32⟩
  | .hbm, ⟨23, _⟩ => ⟨S48x3072x2, .f32⟩
  | .hbm, ⟨24, _⟩ => ⟨S48x3072x2, .bf16⟩
  | .hbm, ⟨25, _⟩ => ⟨S1, .i32⟩
  | .hbm, ⟨26, _⟩ => ⟨S1, .i32⟩
  | .hbm, ⟨27, _⟩ => ⟨S1, .i32⟩
  | .hbm, ⟨28, _⟩ => ⟨S3, .i32⟩
  | .hbm, ⟨29, _⟩ => ⟨S48x3072x1, .bf16⟩
  | .hbm, ⟨30, _⟩ => ⟨S48x3072, .bf16⟩
  | .hbm, ⟨31, _⟩ => ⟨S48x3072x1, .bf16⟩
  | .hbm, ⟨32, _⟩ => ⟨S48x3072, .bf16⟩
  | .hbm, ⟨33, _⟩ => ⟨S1x16384, .i32⟩
  | .hbm, ⟨34, _⟩ => ⟨S1x16384, .i32⟩
  | .hbm, ⟨35, _⟩ => ⟨S1x16384, .i32⟩
  | .hbm, ⟨36, _⟩ => ⟨S48x16384, .i8⟩
  | .hbm, ⟨37, _⟩ => ⟨S6x8x16384, .i8⟩
  | .local _ .vmem, ⟨0, _⟩ => ⟨S48x3072, .bf16⟩
  | .local _ .vmem, ⟨1, _⟩ => ⟨S48x3072, .bf16⟩
  | .local _ .vmem, ⟨2, _⟩ => ⟨S48x128, .i32⟩
  | .local _ .vmem, ⟨3, _⟩ => ⟨S512x3072, .i8⟩
  | .local _ .vmem, ⟨4, _⟩ => ⟨S512x3072, .i8⟩
  | .local _ .vmem, ⟨5, _⟩ => ⟨S1x512, .i32⟩
  | .local _ .vmem, ⟨6, _⟩ => ⟨S1x512, .i32⟩
  | .local _ .vmem, ⟨7, _⟩ => ⟨S1x512, .i32⟩
  | .local _ .vmem, ⟨8, _⟩ => ⟨S1x512, .i32⟩
  | .local _ .vmem, ⟨9, _⟩ => ⟨S1x512, .i32⟩
  | .local _ .vmem, ⟨10, _⟩ => ⟨S1x512, .i32⟩
  | .local _ .vmem, ⟨11, _⟩ => ⟨S48x512, .i8⟩
  | .local _ .vmem, ⟨12, _⟩ => ⟨S48x512, .i8⟩
  | .local _ .smem, ⟨0, _⟩ => ⟨S3, .i32⟩
  | _, _ => ⟨S6x8x6144, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg4_1 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .smem S3 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S48x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S48x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S48x128 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x3072 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S48x512 .i8 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S6x8x6144 : Shape := ⟨3, ![6, 8, 6144]⟩
abbrev S_ : Shape := ⟨0, ![]⟩
abbrev S16384x3072 : Shape := ⟨2, ![16384, 3072]⟩
abbrev S16384 : Shape := ⟨1, ![16384]⟩
abbrev S6x8x3072 : Shape := ⟨3, ![6, 8, 3072]⟩
abbrev S6x8x1x3072 : Shape := ⟨4, ![6, 8, 1, 3072]⟩
abbrev S1x1x16384x3072 : Shape := ⟨4, ![1, 1, 16384, 3072]⟩
abbrev S6x8x16384x3072 : Shape := ⟨4, ![6, 8, 16384, 3072]⟩
abbrev S6x8x16384 : Shape := ⟨3, ![6, 8, 16384]⟩
abbrev S1x1x16384 : Shape := ⟨3, ![1, 1, 16384]⟩

abbrev nBuf : Space → Nat
  | .hbm => 173
  | .vmem => 0
  | .smem => 0
  | _ => 0

abbrev hbmTy0_0 (i : Nat) : BufTy := match i % 128 with
  | 0 => ⟨S6x8x6144, .i8⟩
  | 1 => ⟨S_, .i32⟩
  | 2 => ⟨S16384x3072, .i8⟩
  | 3 => ⟨S16384, .i32⟩
  | 4 => ⟨S16384, .i32⟩
  | 5 => ⟨S16384, .i32⟩
  | 6 => ⟨S_, .i32⟩
  | 7 => ⟨S_, .i32⟩
  | 8 => ⟨S_, .i32⟩
  | 9 => ⟨S16384x3072, .i32⟩
  | 10 => ⟨S_, .i32⟩
  | 11 => ⟨S16384x3072, .i32⟩
  | 12 => ⟨S16384x3072, .i32⟩
  | 13 => ⟨S_, .i32⟩
  | 14 => ⟨S16384x3072, .i32⟩
  | 15 => ⟨S16384x3072, .i32⟩
  | 16 => ⟨S_, .i32⟩
  | 17 => ⟨S16384x3072, .i32⟩
  | 18 => ⟨S16384x3072, .i32⟩
  | 19 => ⟨S16384x3072, .i8⟩
  | 20 => ⟨S_, .i32⟩
  | 21 => ⟨S16384x3072, .i32⟩
  | 22 => ⟨S16384x3072, .i32⟩
  | 23 => ⟨S_, .i32⟩
  | 24 => ⟨S16384x3072, .i32⟩
  | 25 => ⟨S16384x3072, .i32⟩
  | 26 => ⟨S_, .i32⟩
  | 27 => ⟨S16384x3072, .i32⟩
  | 28 => ⟨S16384x3072, .i32⟩
  | 29 => ⟨S_, .i32⟩
  | 30 => ⟨S16384x3072, .i32⟩
  | 31 => ⟨S16384x3072, .i32⟩
  | 32 => ⟨S16384x3072, .i8⟩
  | 33 => ⟨S6x8x3072, .i8⟩
  | 34 => ⟨S6x8x3072, .i32⟩
  | 35 => ⟨S6x8x1x3072, .i32⟩
  | 36 => ⟨S16384x3072, .i32⟩
  | 37 => ⟨S1x1x16384x3072, .i32⟩
  | 38 => ⟨S6x8x16384x3072, .i32⟩
  | 39 => ⟨S6x8x16384x3072, .i32⟩
  | 40 => ⟨S6x8x16384x3072, .i32⟩
  | 41 => ⟨S_, .i32⟩
  | 42 => ⟨S6x8x16384, .i32⟩
  | 43 => ⟨S6x8x3072, .i8⟩
  | 44 => ⟨S6x8x3072, .i32⟩
  | 45 => ⟨S6x8x1x3072, .i32⟩
  | 46 => ⟨S16384x3072, .i32⟩
  | 47 => ⟨S1x1x16384x3072, .i32⟩
  | 48 => ⟨S6x8x16384x3072, .i32⟩
  | 49 => ⟨S6x8x16384x3072, .i32⟩
  | 50 => ⟨S6x8x16384x3072, .i32⟩
  | 51 => ⟨S_, .i32⟩
  | 52 => ⟨S6x8x16384, .i32⟩
  | 53 => ⟨S6x8x16384, .i32⟩
  | 54 => ⟨S16384x3072, .i32⟩
  | 55 => ⟨S_, .i32⟩
  | 56 => ⟨S16384, .i32⟩
  | 57 => ⟨S16384x3072, .i32⟩
  | 58 => ⟨S_, .i32⟩
  | 59 => ⟨S16384, .i32⟩
  | 60 => ⟨S16384, .i32⟩
  | 61 => ⟨S16384, .i32⟩
  | 62 => ⟨S16384, .i32⟩
  | 63 => ⟨S1x1x16384, .i32⟩
  | 64 => ⟨S6x8x16384, .i32⟩
  | 65 => ⟨S6x8x16384, .i32⟩
  | 66 => ⟨S1x1x16384, .i32⟩
  | 67 => ⟨S6x8x16384, .i32⟩
  | 68 => ⟨S6x8x16384, .i32⟩
  | 69 => ⟨S_, .i32⟩
  | 70 => ⟨S6x8x16384, .i32⟩
  | 71 => ⟨S6x8x16384, .i1⟩
  | 72 => ⟨S6x8x16384, .i32⟩
  | 73 => ⟨S6x8x16384, .i32⟩
  | 74 => ⟨S16384, .i32⟩
  | 75 => ⟨S_, .i32⟩
  | 76 => ⟨S6x8x16384, .i32⟩
  | 77 => ⟨S6x8x16384, .i32⟩
  | 78 => ⟨S_, .i32⟩
  | 79 => ⟨S6x8x16384, .i32⟩
  | 80 => ⟨S6x8x16384, .i32⟩
  | 81 => ⟨S_, .i32⟩
  | 82 => ⟨S16384, .i32⟩
  | 83 => ⟨S16384, .i32⟩
  | 84 => ⟨S_, .i32⟩
  | 85 => ⟨S16384, .i32⟩
  | 86 => ⟨S16384, .i32⟩
  | 87 => ⟨S1x1x16384, .i32⟩
  | 88 => ⟨S6x8x16384, .i32⟩
  | 89 => ⟨S6x8x16384, .i32⟩
  | 90 => ⟨S1x1x16384, .i32⟩
  | 91 => ⟨S6x8x16384, .i32⟩
  | 92 => ⟨S6x8x16384, .i32⟩
  | 93 => ⟨S1x1x16384, .i32⟩
  | 94 => ⟨S6x8x16384, .i32⟩
  | 95 => ⟨S6x8x16384, .i32⟩
  | 96 => ⟨S1x1x16384, .i32⟩
  | 97 => ⟨S6x8x16384, .i32⟩
  | 98 => ⟨S6x8x16384, .i32⟩
  | 99 => ⟨S_, .i32⟩
  | 100 => ⟨S6x8x16384, .i32⟩
  | 101 => ⟨S6x8x16384, .i32⟩
  | 102 => ⟨S6x8x16384, .i32⟩
  | 103 => ⟨S6x8x16384, .i1⟩
  | 104 => ⟨S6x8x16384, .i32⟩
  | 105 => ⟨S_, .i32⟩
  | 106 => ⟨S6x8x16384, .i32⟩
  | 107 => ⟨S6x8x16384, .i32⟩
  | 108 => ⟨S6x8x16384, .i32⟩
  | 109 => ⟨S6x8x16384, .i1⟩
  | 110 => ⟨S6x8x16384, .i32⟩
  | 111 => ⟨S_, .i32⟩
  | 112 => ⟨S_, .i32⟩
  | 113 => ⟨S6x8x16384, .i32⟩
  | 114 => ⟨S6x8x16384, .i32⟩
  | 115 => ⟨S6x8x16384, .i32⟩
  | 116 => ⟨S6x8x16384, .i32⟩
  | 117 => ⟨S6x8x16384, .i1⟩
  | 118 => ⟨S6x8x16384, .i32⟩
  | 119 => ⟨S_, .i32⟩
  | 120 => ⟨S6x8x16384, .i32⟩
  | 121 => ⟨S6x8x16384, .i32⟩
  | 122 => ⟨S6x8x16384, .i32⟩
  | 123 => ⟨S_, .i32⟩
  | 124 => ⟨S6x8x16384, .i32⟩
  | 125 => ⟨S6x8x16384, .i32⟩
  | 126 => ⟨S6x8x16384, .i32⟩
  | 127 => ⟨S6x8x16384, .i32⟩
  | _ => ⟨S6x8x6144, .i8⟩

abbrev hbmTy0_1 (i : Nat) : BufTy := match i % 128 with
  | 0 => ⟨S6x8x16384, .i32⟩
  | 1 => ⟨S6x8x16384, .i32⟩
  | 2 => ⟨S_, .i32⟩
  | 3 => ⟨S6x8x16384, .i32⟩
  | 4 => ⟨S6x8x16384, .i32⟩
  | 5 => ⟨S_, .i32⟩
  | 6 => ⟨S6x8x16384, .i32⟩
  | 7 => ⟨S6x8x16384, .i32⟩
  | 8 => ⟨S6x8x16384, .i32⟩
  | 9 => ⟨S6x8x16384, .i32⟩
  | 10 => ⟨S6x8x16384, .i32⟩
  | 11 => ⟨S6x8x16384, .i32⟩
  | 12 => ⟨S16384, .i32⟩
  | 13 => ⟨S_, .i32⟩
  | 14 => ⟨S16384, .i32⟩
  | 15 => ⟨S16384, .i32⟩
  | 16 => ⟨S_, .i32⟩
  | 17 => ⟨S16384, .i32⟩
  | 18 => ⟨S16384, .i32⟩
  | 19 => ⟨S1x1x16384, .i32⟩
  | 20 => ⟨S6x8x16384, .i32⟩
  | 21 => ⟨S6x8x16384, .i32⟩
  | 22 => ⟨S_, .i32⟩
  | 23 => ⟨S16384, .i32⟩
  | 24 => ⟨S16384, .i32⟩
  | 25 => ⟨S_, .i32⟩
  | 26 => ⟨S6x8x16384, .i32⟩
  | 27 => ⟨S6x8x16384, .i1⟩
  | 28 => ⟨S6x8x16384, .i32⟩
  | 29 => ⟨S1x1x16384, .i32⟩
  | 30 => ⟨S6x8x16384, .i32⟩
  | 31 => ⟨S6x8x16384, .i32⟩
  | 32 => ⟨S1x1x16384, .i32⟩
  | 33 => ⟨S6x8x16384, .i32⟩
  | 34 => ⟨S6x8x16384, .i32⟩
  | 35 => ⟨S6x8x16384, .i1⟩
  | 36 => ⟨S6x8x16384, .i32⟩
  | 37 => ⟨S6x8x16384, .i32⟩
  | 38 => ⟨S6x8x16384, .i32⟩
  | 39 => ⟨S6x8x16384, .i32⟩
  | 40 => ⟨S6x8x16384, .i32⟩
  | 41 => ⟨S6x8x16384, .i32⟩
  | 42 => ⟨S6x8x16384, .i32⟩
  | 43 => ⟨S6x8x16384, .i32⟩
  | 44 => ⟨S6x8x16384, .i8⟩
  | _ => ⟨S6x8x6144, .i8⟩

abbrev hbmTy (i : Nat) : BufTy := match i / 128 with
  | 0 => hbmTy0_0 i
  | 1 => hbmTy0_1 i
  | _ => ⟨S6x8x6144, .i8⟩

abbrev bufTy : (tb : Table) → Fin (tcTables nBuf tb) → BufTy
  | .hbm, ⟨i, _⟩ => hbmTy i
  | _, _ => ⟨S6x8x6144, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_v1 : Ref sig .tc := ⟨.hbm, 11, rfl⟩
abbrev main_v2 : Ref sig .tc := ⟨.hbm, 12, rfl⟩
abbrev main_c_0 : Ref sig .tc := ⟨.hbm, 13, rfl⟩
abbrev main_v3 : Ref sig .tc := ⟨.hbm, 14, rfl⟩
abbrev main_v4 : Ref sig .tc := ⟨.hbm, 15, rfl⟩
abbrev main_c_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_c_2 : Ref sig .tc := ⟨.hbm, 20, rfl⟩
abbrev main_v8 : Ref sig .tc := ⟨.hbm, 21, rfl⟩
abbrev main_v9 : Ref sig .tc := ⟨.hbm, 22, rfl⟩
abbrev main_c_3 : Ref sig .tc := ⟨.hbm, 23, rfl⟩
abbrev main_v10 : Ref sig .tc := ⟨.hbm, 24, rfl⟩
abbrev main_v11 : Ref sig .tc := ⟨.hbm, 25, rfl⟩
abbrev main_c_4 : Ref sig .tc := ⟨.hbm, 26, rfl⟩
abbrev main_v12 : Ref sig .tc := ⟨.hbm, 27, rfl⟩
abbrev main_v13 : Ref sig .tc := ⟨.hbm, 28, rfl⟩
abbrev main_c_5 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_c_6 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_c_8 : Ref sig .tc := ⟨.hbm, 55, rfl⟩
abbrev main_v37 : Ref sig .tc := ⟨.hbm, 56, rfl⟩
abbrev main_v38 : Ref sig .tc := ⟨.hbm, 57, rfl⟩
abbrev main_c_9 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_c_11 : Ref sig .tc := ⟨.hbm, 75, rfl⟩
abbrev main_v54 : Ref sig .tc := ⟨.hbm, 76, rfl⟩
abbrev main_v55 : Ref sig .tc := ⟨.hbm, 77, rfl⟩
abbrev main_c_12 : Ref sig .tc := ⟨.hbm, 78, rfl⟩
abbrev main_v56 : Ref sig .tc := ⟨.hbm, 79, rfl⟩
abbrev main_v57 : Ref sig .tc := ⟨.hbm, 80, rfl⟩
abbrev main_c_13 : Ref sig .tc := ⟨.hbm, 81, rfl⟩
abbrev main_v58 : Ref sig .tc := ⟨.hbm, 82, rfl⟩
abbrev main_v59 : Ref sig .tc := ⟨.hbm, 83, rfl⟩
abbrev main_c_14 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_c_15 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_c_16 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_c_17 : Ref sig .tc := ⟨.hbm, 111, rfl⟩
abbrev main_c_18 : Ref sig .tc := ⟨.hbm, 112, rfl⟩
abbrev main_call0_v0 : Ref sig .tc := ⟨.hbm, 113, rfl⟩
abbrev main_call0_v1 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_c_19 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_c_20 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_c_21 : Ref sig .tc := ⟨.hbm, 130, rfl⟩
abbrev main_v97 : Ref sig .tc := ⟨.hbm, 131, rfl⟩
abbrev main_v98 : Ref sig .tc := ⟨.hbm, 132, rfl⟩
abbrev main_c_22 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_c_23 : Ref sig .tc := ⟨.hbm, 141, rfl⟩
abbrev main_v106 : Ref sig .tc := ⟨.hbm, 142, rfl⟩
abbrev main_v107 : Ref sig .tc := ⟨.hbm, 143, rfl⟩
abbrev main_c_24 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_c_25 : Ref sig .tc := ⟨.hbm, 150, rfl⟩
abbrev main_v113 : Ref sig .tc := ⟨.hbm, 151, rfl⟩
abbrev main_v114 : Ref sig .tc := ⟨.hbm, 152, rfl⟩
abbrev main_c_26 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_call2_v0 : Ref sig .tc := ⟨.hbm, 168, rfl⟩
abbrev main_call2_v1 : Ref sig .tc := ⟨.hbm, 169, rfl⟩
abbrev main_call2_v2 : Ref sig .tc := ⟨.hbm, 170, rfl⟩
abbrev main_v129 : Ref sig .tc := ⟨.hbm, 171, rfl⟩
abbrev main_v130 : Ref sig .tc := ⟨.hbm, 172, rfl⟩

abbrev nD : Nat := 1
abbrev τ : Topo := Topo.v7x

variable {F : FTy → Type} [FloatOps F]
-- ==== Proof.HighMul.lean ====
/-
  The fixed-point product of a 32-bit accumulator and a nonnegative 32-bit multiplier, in 16-bit limbs: the way the kernel
  writes it (signed high limbs, the two middle products averaged) and the way the reference writes it (magnitudes, unsigned
  limbs, carries, the sign put back). Both are the integer `(a * m + 2^30) / 2^31`, rounded down.
-/
module

public import Idealize.ShloMosaic.PureOps.Float
public import Mathlib.Tactic.Linarith
public import Mathlib.Tactic.Ring

@[expose] public section

set_option maxRecDepth 16384

noncomputable section

namespace Cert.Words

open Idealize.ShloMosaic

/-! ## Readings of single word operations as integers -/

/-- A word's signed value by its unsigned one. -/
theorem toInt_cases (x : BitVec 32) : (x.toNat < 2 ^ 31 ∧ x.toInt = x.toNat) ∨ (2 ^ 31 ≤ x.toNat ∧ x.toNat < 2 ^ 32 ∧ x.toInt = (x.toNat : Int) - 2 ^ 32) := by
  have h := x.isLt
  rw [BitVec.toInt_eq_toNat_cond]
  split <;> omega

/-- Masking to the low sixteen bits is the remainder by 65536. -/
theorem low_toNat (x : BitVec 32) : (IntOp.andi x 65535#32).toNat = x.toNat % 65536 := by
  show (x &&& 65535#32).toNat = _
  rw [BitVec.toNat_and]
  exact Nat.and_two_pow_sub_one_eq_mod x.toNat 16

/-- A sum whose value fits is the sum of the signed values. -/
theorem add_toInt (x y : BitVec 32) (h1 : -2 ^ 31 ≤ x.toInt + y.toInt) (h2 : x.toInt + y.toInt < 2 ^ 31) :
    (IntOp.addi x y).toInt = x.toInt + y.toInt := by
  show (x + y).toInt = _
  rw [BitVec.toInt_add, Int.bmod_eq_of_le (by omega) (by omega)]

/-- A product whose value fits is the product of the signed values. -/
theorem mul_toInt (x y : BitVec 32) (h1 : -2 ^ 31 ≤ x.toInt * y.toInt) (h2 : x.toInt * y.toInt < 2 ^ 31) :
    (IntOp.muli x y).toInt = x.toInt * y.toInt := by
  show (x * y).toInt = _
  rw [BitVec.toInt_mul, Int.bmod_eq_of_le (by omega) (by omega)]

/-- A product that fits unsigned is the product of the unsigned values. -/
theorem mul_toNat (x y : BitVec 32) (h : x.toNat * y.toNat < 2 ^ 32) :
    (IntOp.muli x y).toNat = x.toNat * y.toNat := by
  show (x * y).toNat = _
  rw [BitVec.toNat_mul, Nat.mod_eq_of_lt h]

/-- A sum read unsigned. -/
theorem add_toNat (x y : BitVec 32) : (IntOp.addi x y).toNat = (x.toNat + y.toNat) % 2 ^ 32 := BitVec.toNat_add x y

/-- An arithmetic shift right below the width divides the signed value by the power of two, rounding down. -/
theorem shrsi_toInt (u : ArithUnit) (x : BitVec 32) (n : Nat) (h : n < 32) :
    (IntOp.shrsi u x (BitVec.ofNat 32 n)).toInt = x.toInt / 2 ^ n := by
  have hn : (BitVec.ofNat 32 n).toNat = n := by rw [BitVec.toNat_ofNat, Nat.mod_eq_of_lt (by omega)]
  rw [IntOp.shrsi, if_pos (by rw [hn]; exact h), BitVec.sshiftRight', hn, BitVec.toInt_sshiftRight, Int.shiftRight_eq_div_pow]
  rfl

/-- A logical shift right below the width divides the unsigned value. -/
theorem shrui_toNat (u : ArithUnit) (x : BitVec 32) (n : Nat) (h : n < 32) :
    (IntOp.shrui u x (BitVec.ofNat 32 n)).toNat = x.toNat / 2 ^ n := by
  have hn : (BitVec.ofNat 32 n).toNat = n := by rw [BitVec.toNat_ofNat, Nat.mod_eq_of_lt (by omega)]
  rw [IntOp.shrui, if_pos (by rw [hn]; exact h)]
  show (x >>> (BitVec.ofNat 32 n).toNat).toNat = _
  rw [hn, BitVec.toNat_ushiftRight, Nat.shiftRight_eq_div_pow]

/-- A shift left below the width multiplies the unsigned value, dropping what passes the top. -/
theorem shli_toNat (u : ArithUnit) (x : BitVec 32) (n : Nat) (h : n < 32) :
    (IntOp.shli u x (BitVec.ofNat 32 n)).toNat = x.toNat * 2 ^ n % 2 ^ 32 := by
  have hn : (BitVec.ofNat 32 n).toNat = n := by rw [BitVec.toNat_ofNat, Nat.mod_eq_of_lt (by omega)]
  rw [IntOp.shli, if_pos (by rw [hn]; exact h)]
  show (x <<< (BitVec.ofNat 32 n).toNat).toNat = _
  rw [hn, BitVec.toNat_shiftLeft, Nat.shiftLeft_eq]

/-- The low bit of a conjunction is the product of the low bits. -/
theorem and_and_one_toNat (x y : BitVec 32) :
    (IntOp.andi (IntOp.andi x y) 1#32).toNat = (x.toNat % 2) * (y.toNat % 2) := by
  show ((x &&& y) &&& 1#32).toNat = _
  rw [BitVec.and_assoc, BitVec.toNat_and, BitVec.toNat_and]
  show x.toNat &&& (y.toNat &&& 1) = _
  rw [Nat.and_one_is_mod]
  rcases Nat.mod_two_eq_zero_or_one y.toNat with h | h
  · simp [h]
  · rw [h, Nat.and_one_is_mod, Nat.mul_one]

/-- Two words with one unsigned value are equal. -/
theorem word_ext {x y : BitVec 32} (h : x.toNat = y.toNat) : x = y := BitVec.eq_of_toNat_eq h

/-- The word of an integer, read unsigned. -/
theorem ofInt_toNat (z : Int) : ((BitVec.ofInt 32 z).toNat : Int) = z % 2 ^ 32 := by
  rw [BitVec.toNat_ofInt, Int.toNat_of_nonneg (Int.emod_nonneg _ (by decide))]
  rfl

/-! ## The kernel's product -/

/-- The kernel's middle sum: low limb times high limb, the carry of the low product, and the rounding bit. -/
def kMid (a m : BitVec 32) : BitVec 32 :=
  IntOp.addi
    (IntOp.addi (IntOp.muli (IntOp.andi a 65535#32) (IntOp.shrsi .vector m 16#32))
      (IntOp.shrui .vector (IntOp.muli (IntOp.andi a 65535#32) (IntOp.andi m 65535#32)) 16#32))
    16384#32

/-- The kernel's other middle product: high limb times low limb. -/
def kCross (a m : BitVec 32) : BitVec 32 :=
  IntOp.muli (IntOp.shrsi .vector a 16#32) (IntOp.andi m 65535#32)

/-- The kernel's fixed-point product: twice the high product plus the average of the two middle terms shifted into place. -/
def kHighMul (a m : BitVec 32) : BitVec 32 :=
  IntOp.addi
    (IntOp.shli .vector (IntOp.muli (IntOp.shrsi .vector a 16#32) (IntOp.shrsi .vector m 16#32)) 1#32)
    (IntOp.shrsi .vector
      (IntOp.addi
        (IntOp.addi (IntOp.shrsi .vector (kMid a m) 1#32) (IntOp.shrsi .vector (kCross a m) 1#32))
        (IntOp.andi (IntOp.andi (kMid a m) (kCross a m)) 1#32))
      14#32)

/-- For a nonnegative multiplier the kernel's product is `(a * m + 2^30) / 2^31` rounded down, as a word. -/
theorem kHighMul_eq (a m : BitVec 32) (hm : 0 ≤ m.toInt) :
    kHighMul a m = BitVec.ofInt 32 ((a.toInt * m.toInt + 2 ^ 30) / 2 ^ 31) := by
  have hal := low_toNat a
  have hml := low_toNat m
  have hah := shrsi_toInt .vector a 16 (by omega)
  have hmh := shrsi_toInt .vector m 16 (by omega)
  have ca := toInt_cases a
  have cm := toInt_cases m
  change (IntOp.shrsi .vector a 16#32).toInt = _ at hah
  change (IntOp.shrsi .vector m 16#32).toInt = _ at hmh
  have eq : kCross a m = IntOp.muli (IntOp.shrsi .vector a 16#32) (IntOp.andi m 65535#32) := rfl
  have ep : kMid a m = IntOp.addi
    (IntOp.addi (IntOp.muli (IntOp.andi a 65535#32) (IntOp.shrsi .vector m 16#32))
      (IntOp.shrui .vector (IntOp.muli (IntOp.andi a 65535#32) (IntOp.andi m 65535#32)) 16#32))
    16384#32 := rfl
  unfold kHighMul
  generalize kCross a m = q at *
  generalize kMid a m = p at *
  generalize IntOp.andi a 65535#32 = al at *
  generalize IntOp.andi m 65535#32 = ml at *
  generalize IntOp.shrsi .vector a 16#32 = ah at *
  generalize IntOp.shrsi .vector m 16#32 = mh at *
  have cal := toInt_cases al
  have cml := toInt_cases ml
  have cah := toInt_cases ah
  have cmh := toInt_cases mh
  have dal : al.toInt = al.toNat := by omega
  have dml : ml.toInt = ml.toNat := by omega
  have bal : 0 ≤ al.toInt ∧ al.toInt ≤ 65535 := by omega
  have bml : 0 ≤ ml.toInt ∧ ml.toInt ≤ 65535 := by omega
  have bah : -32768 ≤ ah.toInt ∧ ah.toInt ≤ 32767 := by omega
  have bmh : 0 ≤ mh.toInt ∧ mh.toInt ≤ 32767 := by omega
  have ea : a.toInt = ah.toInt * 65536 + al.toInt := by omega
  have em : m.toInt = mh.toInt * 65536 + ml.toInt := by omega
  have prod : a.toInt * m.toInt = (ah.toInt * mh.toInt) * 2 ^ 32 + (al.toInt * mh.toInt + ah.toInt * ml.toInt) * 65536 + al.toInt * ml.toInt := by
    rw [ea, em]; ring
  have p1 : 0 ≤ al.toInt * ml.toInt ∧ al.toInt * ml.toInt ≤ 65535 * 65535 :=
    ⟨Int.mul_nonneg bal.1 bml.1, by nlinarith⟩
  have p2 : 0 ≤ al.toInt * mh.toInt ∧ al.toInt * mh.toInt ≤ 65535 * 32767 :=
    ⟨Int.mul_nonneg bal.1 bmh.1, by nlinarith⟩
  have p3 : -32768 * 65535 ≤ ah.toInt * ml.toInt ∧ ah.toInt * ml.toInt ≤ 32767 * 65535 := by
    constructor <;> nlinarith
  have p4 : -32768 * 32767 ≤ ah.toInt * mh.toInt ∧ ah.toInt * mh.toInt ≤ 32767 * 32767 := by
    constructor <;> nlinarith
  -- the low product, unsigned
  have n1 : (IntOp.muli al ml).toNat = al.toNat * ml.toNat := mul_toNat _ _ (by
    have : ((al.toNat * ml.toNat : Nat) : Int) = al.toInt * ml.toInt := by rw [dal, dml]; push_cast; rfl
    omega)
  have n1' : ((IntOp.muli al ml).toNat : Int) = al.toInt * ml.toInt := by rw [n1, dal, dml]; push_cast; rfl
  have s1 := shrui_toNat .vector (IntOp.muli al ml) 16 (by omega)
  change (IntOp.shrui .vector (IntOp.muli al ml) 16#32).toNat = _ at s1
  have cs := toInt_cases (IntOp.shrui .vector (IntOp.muli al ml) 16#32)
  have t2 := mul_toInt al mh (by omega) (by omega)
  have t3 := mul_toInt ah ml (by omega) (by omega)
  have t4 := mul_toInt ah mh (by omega) (by omega)
  have a1 := add_toInt (IntOp.muli al mh) (IntOp.shrui .vector (IntOp.muli al ml) 16#32) (by omega) (by omega)
  have h14 : (16384#32 : BitVec 32).toInt = 16384 := by decide
  have a2 := add_toInt (IntOp.addi (IntOp.muli al mh) (IntOp.shrui .vector (IntOp.muli al ml) 16#32)) 16384#32 (by omega) (by omega)
  rw [← ep] at a2
  rw [← eq] at t3
  have hp : p.toInt = al.toInt * mh.toInt + al.toInt * ml.toInt / 65536 + 16384 := by omega
  have c1 := shrsi_toInt .vector p 1 (by omega)
  have c2 := shrsi_toInt .vector q 1 (by omega)
  change (IntOp.shrsi .vector p 1#32).toInt = _ at c1
  change (IntOp.shrsi .vector q 1#32).toInt = _ at c2
  have c3 := and_and_one_toNat p q
  have cp := toInt_cases p
  have cq := toInt_cases q
  have c4 := toInt_cases (IntOp.andi (IntOp.andi p q) 1#32)
  have c5 : (IntOp.andi (IntOp.andi p q) 1#32).toInt = (p.toInt % 2) * (q.toInt % 2) := by
    have e1 : p.toInt % 2 = ((p.toNat % 2 : Nat) : Int) := by omega
    have e2 : q.toInt % 2 = ((q.toNat % 2 : Nat) : Int) := by omega
    have hb : (p.toNat % 2) * (q.toNat % 2) ≤ 1 := by
      rcases Nat.mod_two_eq_zero_or_one p.toNat with h | h <;> rcases Nat.mod_two_eq_zero_or_one q.toNat with h' | h' <;> rw [h, h'] <;> omega
    rw [e1, e2, ← Nat.cast_mul, ← c3]
    omega
  have c6 : p.toInt / 2 + q.toInt / 2 + (p.toInt % 2) * (q.toInt % 2) = (p.toInt + q.toInt) / 2 := by
    rcases Int.emod_two_eq_zero_or_one p.toInt with h | h <;> rcases Int.emod_two_eq_zero_or_one q.toInt with h' | h' <;> rw [h, h'] <;> omega
  have d1 := add_toInt (IntOp.shrsi .vector p 1#32) (IntOp.shrsi .vector q 1#32) (by omega) (by omega)
  have d2 := add_toInt (IntOp.addi (IntOp.shrsi .vector p 1#32) (IntOp.shrsi .vector q 1#32)) (IntOp.andi (IntOp.andi p q) 1#32) (by omega) (by omega)
  have d3 := shrsi_toInt .vector (IntOp.addi (IntOp.addi (IntOp.shrsi .vector p 1#32) (IntOp.shrsi .vector q 1#32)) (IntOp.andi (IntOp.andi p q) 1#32)) 14 (by omega)
  change (IntOp.shrsi .vector _ 14#32).toInt = _ at d3
  generalize IntOp.shrsi .vector (IntOp.addi (IntOp.addi (IntOp.shrsi .vector p 1#32) (IntOp.shrsi .vector q 1#32)) (IntOp.andi (IntOp.andi p q) 1#32)) 14#32 = w at *
  have d4 : w.toInt = (p.toInt + q.toInt) / 2 ^ 15 := by omega
  have f1 := shli_toNat .vector (IntOp.muli ah mh) 1 (by omega)
  change (IntOp.shli .vector (IntOp.muli ah mh) 1#32).toNat = _ at f1
  generalize IntOp.muli ah mh = hh at *
  have chh := toInt_cases hh
  have cw := toInt_cases w
  apply word_ext
  have hz := ofInt_toNat ((a.toInt * m.toInt + 2 ^ 30) / 2 ^ 31)
  rw [add_toNat, f1]
  rw [prod] at *
  generalize al.toInt * mh.toInt = x2 at *
  generalize ah.toInt * ml.toInt = x3 at *
  generalize al.toInt * ml.toInt = x1 at *
  generalize ah.toInt * mh.toInt = x4 at *
  have fin : (x4 * 2 ^ 32 + (x2 + x3) * 65536 + x1 + 2 ^ 30) / 2 ^ 31 = 2 * x4 + w.toInt := by
    rw [d4, hp, t3]; omega
  rw [fin] at hz ⊢
  apply Int.ofNat.inj
  show ((_ : Nat) : Int) = ((_ : Nat) : Int)
  rw [hz]
  clear * - chh cw t4
  push_cast
  omega

/-! ## The reference's product -/

/-- The reference's magnitude, limb by limb: the sum of the shifted limb products after the first addition. -/
def rSum1 (n m : BitVec 32) : BitVec 32 :=
  IntOp.addi (IntOp.muli (IntOp.andi n 65535#32) (IntOp.andi m 65535#32))
    (IntOp.shli .host (IntOp.muli (IntOp.andi n 65535#32) (IntOp.shrui .host m 16#32)) 16#32)

/-- The same after the second addition. -/
def rSum2 (n m : BitVec 32) : BitVec 32 :=
  IntOp.addi (rSum1 n m)
    (IntOp.shli .host (IntOp.muli (IntOp.shrui .host n 16#32) (IntOp.andi m 65535#32)) 16#32)

/-- The same after the rounding term. -/
def rSum3 (n m u : BitVec 32) : BitVec 32 := IntOp.addi (rSum2 n m) u

/-- The reference's high word: the high limb product, the high halves of the middle products, and the three carries. -/
def rHigh (n m u : BitVec 32) : BitVec 32 :=
  IntOp.addi
    (IntOp.addi
      (IntOp.addi
        (IntOp.addi
          (IntOp.addi (IntOp.muli (IntOp.shrui .host n 16#32) (IntOp.shrui .host m 16#32))
            (IntOp.shrui .host (IntOp.muli (IntOp.andi n 65535#32) (IntOp.shrui .host m 16#32)) 16#32))
          (IntOp.shrui .host (IntOp.muli (IntOp.shrui .host n 16#32) (IntOp.andi m 65535#32)) 16#32))
        (BitVec.setWidth 32 (IntOp.cmpi .ult (rSum1 n m) (IntOp.muli (IntOp.andi n 65535#32) (IntOp.andi m 65535#32)))))
      (BitVec.setWidth 32 (IntOp.cmpi .ult (rSum2 n m) (rSum1 n m))))
    (BitVec.setWidth 32 (IntOp.cmpi .ult (rSum3 n m u) (rSum2 n m)))

/-- The reference's magnitude of the product: bits 31 … 62 of the 64-bit sum. -/
def rMag (n m u : BitVec 32) : BitVec 32 :=
  IntOp.ori (IntOp.shli .host (rHigh n m u) 1#32) (IntOp.shrui .host (rSum3 n m u) 31#32)

/-- The reference's fixed-point product: the magnitude with its sign put back. -/
def rHighMul (a m : BitVec 32) : BitVec 32 :=
  Scalar.select (IntOp.cmpi .slt a 0#32)
    (-(rMag (IntOp.absi a) m (Scalar.select (IntOp.cmpi .slt a 0#32) 1073741823#32 1073741824#32)))
    (rMag (IntOp.absi a) m (Scalar.select (IntOp.cmpi .slt a 0#32) 1073741823#32 1073741824#32))

/-- An unsigned comparison bit, widened. -/
theorem ult_toNat (x y : BitVec 32) :
    (BitVec.setWidth 32 (IntOp.cmpi .ult x y)).toNat = if x.toNat < y.toNat then 1 else 0 := by
  have e : IntOp.cmpi .ult x y = BitVec.ofBool (x.ult y) := rfl
  rw [e, BitVec.ult]
  by_cases h : x.toNat < y.toNat
  · simp [h]
  · simp [h]

/-- A disjunction of an even word and a bit is their sum. -/
theorem or_bit_toNat (h b : BitVec 32) (hh : h.toNat < 2 ^ 31) (hb : b.toNat ≤ 1) :
    (IntOp.ori (IntOp.shli .host h 1#32) b).toNat = 2 * h.toNat + b.toNat := by
  have f := shli_toNat .host h 1 (by omega)
  change (IntOp.shli .host h 1#32).toNat = _ at f
  show (IntOp.shli .host h 1#32 ||| b).toNat = _
  rw [BitVec.toNat_or, f, Nat.mod_eq_of_lt (by omega), Nat.mul_comm, Nat.mul_comm (2 ^ 1)]
  have := Nat.shiftLeft_add_eq_or_of_lt (i := 1) (b := b.toNat) (by omega) h.toNat
  rw [Nat.shiftLeft_eq] at this
  rw [← this]
  omega

/-- The magnitude is `(n * m + u) / 2^31`, the operands and the rounding term read unsigned. -/
theorem rMag_toNat (n m u : BitVec 32) (hn : n.toNat ≤ 2 ^ 31) (hm : m.toNat < 2 ^ 31) (hu : u.toNat ≤ 2 ^ 30) :
    (rMag n m u).toNat = (n.toNat * m.toNat + u.toNat) / 2 ^ 31 := by
  have hal := low_toNat n
  have hml := low_toNat m
  have hah := shrui_toNat .host n 16 (by omega)
  have hmh := shrui_toNat .host m 16 (by omega)
  change (IntOp.shrui .host n 16#32).toNat = _ at hah
  change (IntOp.shrui .host m 16#32).toNat = _ at hmh
  have e1 : rSum1 n m = IntOp.addi (IntOp.muli (IntOp.andi n 65535#32) (IntOp.andi m 65535#32))
    (IntOp.shli .host (IntOp.muli (IntOp.andi n 65535#32) (IntOp.shrui .host m 16#32)) 16#32) := rfl
  have e2 : rSum2 n m = IntOp.addi (rSum1 n m)
    (IntOp.shli .host (IntOp.muli (IntOp.shrui .host n 16#32) (IntOp.andi m 65535#32)) 16#32) := rfl
  have e3 : rSum3 n m u = IntOp.addi (rSum2 n m) u := rfl
  unfold rMag rHigh
  generalize rSum3 n m u = s3 at *
  generalize rSum2 n m = s2 at *
  generalize rSum1 n m = s1 at *
  generalize IntOp.andi n 65535#32 = al at *
  generalize IntOp.andi m 65535#32 = ml at *
  generalize IntOp.shrui .host n 16#32 = ah at *
  generalize IntOp.shrui .host m 16#32 = mh at *
  have en : n.toNat = ah.toNat * 65536 + al.toNat := by omega
  have em : m.toNat = mh.toNat * 65536 + ml.toNat := by omega
  have prod : n.toNat * m.toNat = (ah.toNat * mh.toNat) * 2 ^ 32 + (al.toNat * mh.toNat + ah.toNat * ml.toNat) * 65536 + al.toNat * ml.toNat := by
    rw [en, em]; ring
  have bal : al.toNat ≤ 65535 := by omega
  have bml : ml.toNat ≤ 65535 := by omega
  have bah : ah.toNat ≤ 32768 := by omega
  have bmh : mh.toNat ≤ 32767 := by omega
  have p1 : al.toNat * ml.toNat ≤ 65535 * 65535 := Nat.mul_le_mul bal bml
  have p2 : al.toNat * mh.toNat ≤ 65535 * 32767 := Nat.mul_le_mul bal bmh
  have p3 : ah.toNat * ml.toNat ≤ 32768 * 65535 := Nat.mul_le_mul bah bml
  have p4 : ah.toNat * mh.toNat ≤ 32768 * 32767 := Nat.mul_le_mul bah bmh
  have t1 := mul_toNat al ml (by omega)
  have t2 := mul_toNat al mh (by omega)
  have t3 := mul_toNat ah ml (by omega)
  have t4 := mul_toNat ah mh (by omega)
  have f2 := shli_toNat .host (IntOp.muli al mh) 16 (by omega)
  have f3 := shli_toNat .host (IntOp.muli ah ml) 16 (by omega)
  have g2 := shrui_toNat .host (IntOp.muli al mh) 16 (by omega)
  have g3 := shrui_toNat .host (IntOp.muli ah ml) 16 (by omega)
  have g5 := shrui_toNat .host s3 31 (by omega)
  change (IntOp.shli .host (IntOp.muli al mh) 16#32).toNat = _ at f2
  change (IntOp.shli .host (IntOp.muli ah ml) 16#32).toNat = _ at f3
  change (IntOp.shrui .host (IntOp.muli al mh) 16#32).toNat = _ at g2
  change (IntOp.shrui .host (IntOp.muli ah ml) 16#32).toNat = _ at g3
  change (IntOp.shrui .host s3 31#32).toNat = _ at g5
  have k1 : s1.toNat = _ := (congrArg BitVec.toNat e1).trans (add_toNat _ _)
  have k2 : s2.toNat = _ := (congrArg BitVec.toNat e2).trans (add_toNat _ _)
  have k3 : s3.toNat = _ := (congrArg BitVec.toNat e3).trans (add_toNat _ _)
  have c1 := ult_toNat s1 (IntOp.muli al ml)
  have c2 := ult_toNat s2 s1
  have c3 := ult_toNat s3 s2
  rw [t1] at c1
  generalize BitVec.setWidth 32 (IntOp.cmpi .ult s1 (IntOp.muli al ml)) = b1 at *
  generalize BitVec.setWidth 32 (IntOp.cmpi .ult s2 s1) = b2 at *
  generalize BitVec.setWidth 32 (IntOp.cmpi .ult s3 s2) = b3 at *
  have hs1 := s1.isLt
  have hs2 := s2.isLt
  have hs3 := s3.isLt
  rw [t1, f2, t2] at k1
  rw [f3, t3] at k2
  rw [t2] at g2
  rw [t3] at g3
  rw [prod]
  have q1 : b1.toNat * 2 ^ 32 + s1.toNat = al.toNat * ml.toNat + al.toNat * mh.toNat * 2 ^ 16 % 2 ^ 32 := by
    clear * - c1 k1 p1
    generalize al.toNat * ml.toNat = x1 at *
    generalize al.toNat * mh.toNat = x2 at *
    split at c1 <;> omega
  have q2 : b2.toNat * 2 ^ 32 + s2.toNat = s1.toNat + ah.toNat * ml.toNat * 2 ^ 16 % 2 ^ 32 := by
    clear * - c2 k2 hs1
    generalize ah.toNat * ml.toNat = x3 at *
    split at c2 <;> omega
  have q3 : b3.toNat * 2 ^ 32 + s3.toNat = s2.toNat + u.toNat := by
    clear * - c3 k3 hs2 hu
    split at c3 <;> omega
  have l1 : b1.toNat ≤ 1 := by split at c1 <;> omega
  have l2 : b2.toNat ≤ 1 := by split at c2 <;> omega
  have l3 : b3.toNat ≤ 1 := by split at c3 <;> omega
  have hi : (IntOp.addi (IntOp.addi (IntOp.addi (IntOp.addi (IntOp.addi (IntOp.muli ah mh) (IntOp.shrui .host (IntOp.muli al mh) 16#32)) (IntOp.shrui .host (IntOp.muli ah ml) 16#32)) b1) b2) b3).toNat
      = ah.toNat * mh.toNat + al.toNat * mh.toNat / 2 ^ 16 + ah.toNat * ml.toNat / 2 ^ 16 + b1.toNat + b2.toNat + b3.toNat := by
    simp only [add_toNat, t4, g2, g3]
    clear * - p2 p3 p4 l1 l2 l3
    generalize al.toNat * mh.toNat = x2 at *
    generalize ah.toNat * ml.toNat = x3 at *
    generalize ah.toNat * mh.toNat = x4 at *
    omega
  rw [or_bit_toNat _ _ (by
      rw [hi]
      clear * - p2 p3 p4 l1 l2 l3
      generalize al.toNat * mh.toNat = x2 at *
      generalize ah.toNat * ml.toNat = x3 at *
      generalize ah.toNat * mh.toNat = x4 at *
      omega) (by rw [g5]; omega), hi, g5]
  clear * - p2 p3 p4 l1 l2 l3 q1 q2 q3 hs3
  generalize al.toNat * ml.toNat = x1 at *
  generalize al.toNat * mh.toNat = x2 at *
  generalize ah.toNat * ml.toNat = x3 at *
  generalize ah.toNat * mh.toNat = x4 at *
  omega

/-- For a nonnegative multiplier the reference's product is `(a * m + 2^30) / 2^31` rounded down, as a word. -/
theorem rHighMul_eq (a m : BitVec 32) (hm : 0 ≤ m.toInt) :
    rHighMul a m = BitVec.ofInt 32 ((a.toInt * m.toInt + 2 ^ 30) / 2 ^ 31) := by
  have ca := toInt_cases a
  have cm := toInt_cases m
  have hmn : m.toNat < 2 ^ 31 := by omega
  have hmi : m.toInt = m.toNat := by omega
  have hz := ofInt_toNat ((a.toInt * m.toInt + 2 ^ 30) / 2 ^ 31)
  have ec : IntOp.cmpi .slt a 0#32 = BitVec.ofBool (a.slt 0#32) := rfl
  have hc : (IntOp.cmpi .slt a 0#32) = if a.toInt < 0 then 1#1 else 0#1 := by
    rw [ec, BitVec.slt]
    show BitVec.ofBool (decide (a.toInt < 0)) = _
    by_cases h : a.toInt < 0 <;> simp [h]
  apply word_ext
  apply Int.ofNat.inj
  show ((_ : Nat) : Int) = ((_ : Nat) : Int)
  rw [hz]
  unfold rHighMul
  rw [hc]
  by_cases h : a.toInt < 0
  · rw [if_pos h]
    show ((-(rMag (IntOp.absi a) m 1073741823#32)).toNat : Int) = _
    have ha : (IntOp.absi a).toNat = 2 ^ 32 - a.toNat := by
      have hmsb : a.msb = true := by rw [BitVec.msb_eq_decide]; simp only [decide_eq_true_eq]; omega
      rw [IntOp.absi, if_pos hmsb, BitVec.toNat_neg, Nat.mod_eq_of_lt (by omega)]
    have r := rMag_toNat (IntOp.absi a) m 1073741823#32 (by omega) hmn (by decide)
    have u : (1073741823#32 : BitVec 32).toNat = 1073741823 := by decide
    rw [u] at r
    have hp : (((IntOp.absi a).toNat * m.toNat : Nat) : Int) = -(a.toInt * m.toInt) := by
      have : ((IntOp.absi a).toNat : Int) = -a.toInt := by omega
      push_cast
      rw [this, hmi]; ring
    have hb : (IntOp.absi a).toNat * m.toNat ≤ 2 ^ 31 * (2 ^ 31 - 1) := Nat.mul_le_mul (by omega) (by omega)
    rw [BitVec.toNat_neg]
    generalize a.toInt * m.toInt = x at *
    generalize (IntOp.absi a).toNat * m.toNat = y at *
    have hr := (rMag (IntOp.absi a) m 1073741823#32).isLt
    generalize (rMag (IntOp.absi a) m 1073741823#32).toNat = w at *
    clear * - hp hb r hr
    push_cast
    omega
  · rw [if_neg h]
    show (((rMag (IntOp.absi a) m 1073741824#32)).toNat : Int) = _
    have ha : (IntOp.absi a).toNat = a.toNat := by
      have hmsb : ¬ a.msb = true := by rw [BitVec.msb_eq_decide]; simp only [decide_eq_true_eq]; omega
      rw [IntOp.absi, if_neg hmsb]
    have r := rMag_toNat (IntOp.absi a) m 1073741824#32 (by omega) hmn (by decide)
    have u : (1073741824#32 : BitVec 32).toNat = 1073741824 := by decide
    rw [u] at r
    have hp : (((IntOp.absi a).toNat * m.toNat : Nat) : Int) = (a.toInt * m.toInt) := by
      have : ((IntOp.absi a).toNat : Int) = a.toInt := by omega
      push_cast
      rw [this, hmi]
    have hb : (IntOp.absi a).toNat * m.toNat ≤ 2 ^ 31 * (2 ^ 31 - 1) := Nat.mul_le_mul (by omega) (by omega)
    generalize a.toInt * m.toInt = x at *
    generalize (IntOp.absi a).toNat * m.toNat = y at *
    generalize (rMag (IntOp.absi a) m 1073741824#32).toNat = w at *
    clear * - hp hb r
    omega

/-- The two products are one word for every accumulator and every nonnegative multiplier. -/
theorem kHighMul_eq_rHighMul (a m : BitVec 32) (hm : 0 ≤ m.toInt) : kHighMul a m = rHighMul a m :=
  (kHighMul_eq a m hm).trans (rHighMul_eq a m hm).symm

/-- The product never reaches the least word. -/
theorem rHighMul_gt (a m : BitVec 32) (hm : 0 ≤ m.toInt) : -2 ^ 31 < (rHighMul a m).toInt := by
  have ca := toInt_cases a
  have cm := toInt_cases m
  have hh := a.isLt
  have la : -2147483648 ≤ a.toInt := by omega
  have ua : a.toInt ≤ 2147483647 := by omega
  have um : m.toInt ≤ 2147483647 := by omega
  clear ca cm hh
  have b1 : -2147483648 * 2147483647 ≤ a.toInt * m.toInt := by nlinarith
  have b2 : a.toInt * m.toInt ≤ 2147483647 * 2147483647 := by nlinarith
  rw [rHighMul_eq a m hm, BitVec.toInt_ofInt]
  generalize a.toInt * m.toInt = x at *
  rw [Int.bmod_eq_of_le (by omega) (by omega)]
  omega

end Cert.Words

end
-- ==== Proof.Nibbles.lean ====
/-
  The kernel reads its packed weight bytes as 32-bit words, masks and shifts whole words, and reads the words as bytes again.
  Here that is what it is at one byte: the byte with both sign bits flipped, its low or its high four bits kept. And what such a
  byte is read as an fp8 number, and what the reference's four-bit weight is to it.
-/
module

public import Idealize.ShloMosaic.Lib.BitcastFour
public import Idealize.ShloMosaic.Lib.Pointwise
public import proofs.«01_k».proof.Proof.HighMul
public import Mathlib.Data.BitVec
public import Mathlib.Tactic.Ring

@[expose] public section

set_option maxRecDepth 16384

noncomputable section

namespace Cert.Words

open Idealize.ShloMosaic

/-- The low four bits of a weight byte, its sign bit flipped: the low weight plus eight. -/
def lowNib (w : BitVec 8) : BitVec 8 := (w ^^^ 0x88#8) &&& 0x0F#8

/-- The high four bits of a weight byte, its sign bit flipped: the high weight plus eight. -/
def highNib (w : BitVec 8) : BitVec 8 := ((w ^^^ 0x88#8) >>> 4) &&& 0x0F#8

/-- A low nibble is below 16. -/
theorem lowNib_lt : ∀ w : BitVec 8, (lowNib w).toNat < 16 := by decide +kernel

/-- A high nibble is below 16. -/
theorem highNib_lt : ∀ w : BitVec 8, (highNib w).toNat < 16 := by decide +kernel

/-- The reference's low weight, a signed four-bit number: its mask, its sign and its two narrowings. -/
def lowW (w : BitVec 8) : BitVec 32 :=
  BitVec.signExtend 32 (BitVec.setWidth 8
    (IntOp.subi (IntOp.xori (IntOp.andi (BitVec.setWidth 32 w) 15#32) 8#32) 8#32))

/-- The reference's high weight, a signed four-bit number. -/
def highW (w : BitVec 8) : BitVec 32 :=
  BitVec.signExtend 32 (BitVec.setWidth 8
    (IntOp.subi (IntOp.xori (IntOp.andi (IntOp.shrsi .host (BitVec.setWidth 32 w) 4#32) 15#32) 8#32) 8#32))

/-- The kernel's low nibble is the reference's low weight plus eight. -/
theorem lowNib_eq : ∀ w : BitVec 8, (lowNib w).setWidth 32 = lowW w + 8#32 := by decide +kernel

/-- The kernel's high nibble is the reference's high weight plus eight. -/
theorem highNib_eq : ∀ w : BitVec 8, (highNib w).setWidth 32 = highW w + 8#32 := by decide +kernel

/-- Words read as bytes, at rank 2: bit `q` of the byte at row `l` is bit `8 · (l % 4) + q` of the word at row `l / 4`. -/
theorem bitcast_32_8_getLsbD_ix2 {R r n : Nat} (y : (⟨2, ![r, n]⟩ : Shape).Idx → BitVec 32)
    (h : (⟨2, ![r, n]⟩ : Shape).Bitcasts 32 ⟨2, ![R, n]⟩ 8) (l : Fin R) (k : Fin n) (q : Nat) (hq : q < 8) (a : Fin r)
    (ha : a.val = l.val / 4) :
    (bitcast ⟨2, ![R, n]⟩ 8 y h (ValueIdx.ix2 l k)).getLsbD q = (y (ValueIdx.ix2 a k)).getLsbD (8 * (l.val % 4) + q) := by
  rw [bitcast_getLsbD y h _ q hq (by decide)]
  have hr : (⟨2, ![R, n]⟩ : Shape).row (ValueIdx.ix2 l k) = l.val := rfl
  have e2 : ((⟨2, ![R, n]⟩ : Shape).row (ValueIdx.ix2 l k) * 8 + q) % 32 = 8 * (l.val % 4) + q := by rw [hr]; omega
  rw [e2]
  congr 2
  funext c
  match c with
  | ⟨0, _⟩ =>
    refine Fin.ext ((h.srcIdx_row _ _ _ ⟨0, Nat.zero_lt_two⟩ rfl).trans ?_)
    rw [hr]
    show _ = a.val
    omega
  | ⟨1, _⟩ => exact Fin.ext (h.srcIdx_other _ _ _ ⟨1, Nat.one_lt_two⟩ (by show ¬ 1 + 2 = 2; omega))

/-- Every byte of the sign-flip word is `0x88`, bit by bit. -/
theorem flip_bit : ∀ p : Fin 4, ∀ q : Fin 8, (2290649224#32).getLsbD (8 * p.val + q.val) = (0x88#8).getLsbD q.val := by decide +kernel

/-- Every byte of the nibble mask is `0x0F`, bit by bit. -/
theorem mask_bit : ∀ p : Fin 4, ∀ q : Fin 8, (252645135#32).getLsbD (8 * p.val + q.val) = (0x0F#8).getLsbD q.val := by decide +kernel

/-- The upper four bits of `0x0F` are clear. -/
theorem mask_high : ∀ q : Fin 8, 4 ≤ q.val → (0x0F#8).getLsbD q.val = false := by decide +kernel

/-- Whole words with the sign bits flipped and the low nibbles kept, at one byte. -/
theorem low_byte {R r n : Nat} (x : (⟨2, ![R, n]⟩ : Shape).Idx → BitVec 8) (h : (⟨2, ![R, n]⟩ : Shape).Bitcasts 8 ⟨2, ![r, n]⟩ 32)
    (h' : (⟨2, ![r, n]⟩ : Shape).Bitcasts 32 ⟨2, ![R, n]⟩ 8) (hR : R = 4 * r) (l : Fin R) (k : Fin n) :
    bitcast ⟨2, ![R, n]⟩ 8 (andi (xori (bitcast ⟨2, ![r, n]⟩ 32 x h) (broadcast ⟨2, ![r, n]⟩ 2290649224#32))
      (broadcast ⟨2, ![r, n]⟩ 252645135#32)) h' (ValueIdx.ix2 l k) = lowNib (x (ValueIdx.ix2 l k)) := by
  apply BitVec.eq_of_getLsbD_eq
  intro q hq
  have hl := l.isLt
  have hp : l.val % 4 < 4 := Nat.mod_lt _ (by decide)
  rw [bitcast_32_8_getLsbD_ix2 _ h' l k q hq ⟨l.val / 4, by omega⟩ rfl]
  show (IntOp.andi (IntOp.xori (bitcast ⟨2, ![r, n]⟩ 32 x h _) 2290649224#32) 252645135#32).getLsbD _ = _
  simp only [IntOp.andi, IntOp.xori, lowNib, BitVec.getLsbD_and, BitVec.getLsbD_xor]
  rw [bitcast_8_32_getLsbD_ix2 x h _ k (8 * (l.val % 4) + q) (by omega) l (by show l.val = 4 * (l.val / 4) + _; omega),
    flip_bit ⟨_, hp⟩ ⟨q, hq⟩, mask_bit ⟨_, hp⟩ ⟨q, hq⟩, show (8 * (l.val % 4) + q) % 8 = q by omega]

/-- The same with the words shifted right by four first: the high nibbles kept, at one byte. -/
theorem high_byte {R r n : Nat} (x : (⟨2, ![R, n]⟩ : Shape).Idx → BitVec 8) (h : (⟨2, ![R, n]⟩ : Shape).Bitcasts 8 ⟨2, ![r, n]⟩ 32)
    (h' : (⟨2, ![r, n]⟩ : Shape).Bitcasts 32 ⟨2, ![R, n]⟩ 8) (hR : R = 4 * r) (l : Fin R) (k : Fin n) :
    bitcast ⟨2, ![R, n]⟩ 8 (andi (shrui (xori (bitcast ⟨2, ![r, n]⟩ 32 x h) (broadcast ⟨2, ![r, n]⟩ 2290649224#32))
      (broadcast ⟨2, ![r, n]⟩ 4#32)) (broadcast ⟨2, ![r, n]⟩ 252645135#32)) h' (ValueIdx.ix2 l k)
      = highNib (x (ValueIdx.ix2 l k)) := by
  apply BitVec.eq_of_getLsbD_eq
  intro q hq
  have hl := l.isLt
  have hp : l.val % 4 < 4 := Nat.mod_lt _ (by decide)
  rw [bitcast_32_8_getLsbD_ix2 _ h' l k q hq ⟨l.val / 4, by omega⟩ rfl]
  show (IntOp.andi (IntOp.shrui .vector (IntOp.xori (bitcast ⟨2, ![r, n]⟩ 32 x h _) 2290649224#32) 4#32) 252645135#32).getLsbD _ = _
  have hs : ∀ z : BitVec 32, IntOp.shrui .vector z 4#32 = z >>> 4 := fun z => rfl
  simp only [IntOp.andi, hs, IntOp.xori, highNib, BitVec.getLsbD_and, BitVec.getLsbD_xor, BitVec.getLsbD_ushiftRight]
  rw [mask_bit ⟨_, hp⟩ ⟨q, hq⟩]
  by_cases h4 : q < 4
  · rw [bitcast_8_32_getLsbD_ix2 x h _ k (4 + (8 * (l.val % 4) + q)) (by omega) l (by show l.val = 4 * (l.val / 4) + _; omega),
      show 4 + (8 * (l.val % 4) + q) = 8 * (l.val % 4) + (4 + q) by omega, flip_bit ⟨_, hp⟩ ⟨4 + q, by omega⟩,
      show (8 * (l.val % 4) + (4 + q)) % 8 = 4 + q by omega]
  · rw [mask_high ⟨q, hq⟩ (by show 4 ≤ q; omega), Bool.and_false, Bool.and_false]

/-- An fp8 number of a byte below sixteen is the byte times two to the minus ninth. -/
theorem fp8_val (b : BitVec 8) (hb : b.toNat < 16) :
    Ideal.ofBits .fp8e4m3 b = (((b.toNat : ℝ) * 2 ^ (-9 : ℤ) : ℝ) : EReal) := by
  obtain ⟨n, hn, rfl⟩ : ∃ n : Nat, n < 16 ∧ b = BitVec.ofNat 8 n := ⟨b.toNat, hb, by simp⟩
  interval_cases n <;> (simp [Ideal.ofBits, Ideal.e4m3fn, -EReal.coe_mul]; try norm_num)

end Cert.Words

end
-- ==== Proof.Accum.lean ====
/-
  The accumulator before requantisation, at one element. The kernel multiplies the centred activations, scaled by 512, with nibbles
  read as fp8 numbers (a weight plus eight, scaled by one 512th), adds the products as real numbers, converts the sum to an integer
  and takes eight times the sum of the centred activations away. The reference multiplies and adds 32-bit integers and takes the
  zero point times the sum of the weights away. With a zero point in the range of an `int8` the two are the same word.
-/
module

public import proofs.«01_k».proof.Proof.Nibbles

@[expose] public section

set_option maxRecDepth 16384

noncomputable section

namespace Cert.Words

open Idealize.ShloMosaic

/-- A wrapping integer fold of an addition is the sum in the ring of 32-bit words. -/
theorem fold_addi {ι : Type*} (s : Finset ι) (f : ι → BitVec 32) :
    Finset.fold IntOp.addi 0#32 f s = ∑ k ∈ s, f k := rfl

/-- The fp32 constant the activations are scaled by is 512. -/
theorem scale_val : Ideal.ofBits .f32 0x44000000#32 = ((512 : ℝ) : EReal) := by
  simp [Ideal.ofBits, Ideal.ieee, -EReal.coe_mul]; norm_num

/-- A sum of real numbers is the sum of them as extended reals. -/
theorem coe_sum {ι : Type*} (s : Finset ι) (f : ι → ℝ) : ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- The integer conversion of an integer within 32 bits is that integer. -/
theorem fptosi_int (z : ℤ) (h₁ : -(2 ^ 31) ≤ z) (h₂ : z < 2 ^ 31) :
    (FloatOps.fptosi (F := Ideal) (φ := .f32) 32 (((z : ℝ) : EReal) : Ideal .f32) : BitVec 32) = BitVec.ofInt 32 z := by
  show BitVec.ofInt 32 (Ideal.toIntClamped _ _ ((z : ℝ) : EReal)) = _
  rw [Ideal.toIntClamped_coe]
  congr 1
  have : (if (0 : ℝ) ≤ (z : ℝ) then ⌊(z : ℝ)⌋ else ⌈(z : ℝ)⌉) = z := by split <;> simp
  rw [this]
  norm_num
  omega

/-- A sum of integers, as a 32-bit word, is the sum of the words. -/
theorem ofInt_sum {ι : Type*} (s : Finset ι) (f : ι → ℤ) :
    BitVec.ofInt 32 (∑ k ∈ s, f k) = ∑ k ∈ s, BitVec.ofInt 32 (f k) := by
  classical
  induction s using Finset.induction_on with
  | empty => rfl
  | insert a s ha ih => rw [Finset.sum_insert ha, Finset.sum_insert ha, ← ih, BitVec.ofInt_add]

/-- One of the kernel's two products, converted: activations `f` within 255 in size and scaled by 512, bytes `b` below sixteen
    read as fp8 numbers. It is the wrapping integer sum of the products. -/
theorem dot_exact (N : Nat) (hN : N ≤ 100000) (f : Fin N → BitVec 32) (b : Fin N → BitVec 8)
    (hf : ∀ k, -255 ≤ (f k).toInt ∧ (f k).toInt ≤ 255) (hb : ∀ k, (b k).toNat < 16) :
    (FloatOps.fptosi (F := Ideal) (φ := .f32) 32
      (∑ k : Fin N, ((((f k).toInt : ℝ) : EReal) * Ideal.ofBits .f32 0x44000000#32) * Ideal.ofBits .fp8e4m3 (b k) : EReal) : BitVec 32)
      = ∑ k, f k * (b k).setWidth 32 := by
  have hs : (∑ k : Fin N, ((((f k).toInt : ℝ) : EReal) * Ideal.ofBits .f32 0x44000000#32) * Ideal.ofBits .fp8e4m3 (b k) : EReal)
      = (((∑ k, (f k).toInt * ((b k).toNat : ℤ) : ℤ) : ℝ) : EReal) := by
    rw [Int.cast_sum, ← coe_sum]
    refine Finset.sum_congr rfl fun k _ => ?_
    rw [scale_val, fp8_val _ (hb k), ← EReal.coe_mul, ← EReal.coe_mul]
    congr 1
    push_cast
    rw [show (2 : ℝ) ^ (-9 : ℤ) = 1 / 512 by norm_num]
    ring
  have habs : |∑ k, (f k).toInt * ((b k).toNat : ℤ)| ≤ N * 3825 := by
    refine (Finset.abs_sum_le_sum_abs _ _).trans ?_
    refine (Finset.sum_le_card_nsmul _ _ 3825 fun k _ => ?_).trans (by simp)
    rw [abs_mul]
    have h1 : |(f k).toInt| ≤ 255 := abs_le.mpr (hf k)
    have h2 : |((b k).toNat : ℤ)| ≤ 15 := by rw [abs_of_nonneg (by omega)]; have := hb k; omega
    calc |(f k).toInt| * |((b k).toNat : ℤ)| ≤ 255 * 15 := mul_le_mul h1 h2 (abs_nonneg _) (by omega)
      _ = 3825 := by norm_num
  have hb1 := abs_le.mp habs
  have hN' : (N : ℤ) ≤ 100000 := by exact_mod_cast hN
  rw [hs, fptosi_int _ (by omega) (by omega), ofInt_sum]
  refine Finset.sum_congr rfl fun k _ => ?_
  rw [BitVec.ofInt_mul, BitVec.ofInt_toInt]
  congr 1
  apply BitVec.eq_of_toNat_eq
  have := hb k
  simp

/-- A centred activation. -/
def cen (x : BitVec 8) (zp : BitVec 32) : BitVec 32 := IntOp.subi (BitVec.signExtend 32 x) zp

/-- A centred activation is within 255 in size when the zero point is in the range of an `int8`. -/
theorem cen_bound (x : BitVec 8) (zp : BitVec 32) (h₁ : -128 ≤ zp.toInt) (h₂ : zp.toInt ≤ 127) :
    -255 ≤ (cen x zp).toInt ∧ (cen x zp).toInt ≤ 255 := by
  have hx : (BitVec.signExtend 32 x).toInt = x.toInt := BitVec.toInt_signExtend_of_le (by decide)
  have h3 := BitVec.toInt_lt (x := x)
  have h4 := BitVec.le_toInt x
  have : (cen x zp).toInt = x.toInt - zp.toInt := by
    show (BitVec.signExtend 32 x - zp).toInt = _
    rw [BitVec.toInt_sub, hx]
    apply Int.bmod_eq_of_le <;> norm_num at * <;> omega
  rw [this]
  norm_num at h3 h4
  omega

/-- The kernel's accumulator at one element: the even activations `xe`, the odd ones `xo`, the weight bytes `w`, the zero point
    and the correction and bias it adds. -/
def kAcc {N : Nat} (xe xo w : Fin N → BitVec 8) (zp corr bias : BitVec 32) : BitVec 32 :=
  IntOp.addi (IntOp.addi (IntOp.addi
    (FloatOps.fptosi (F := Ideal) (φ := .f32) 32
      (∑ k : Fin N, ((((cen (xe k) zp).toInt : ℝ) : EReal) * Ideal.ofBits .f32 0x44000000#32)
        * Ideal.ofBits .fp8e4m3 (lowNib (w k)) : EReal))
    (FloatOps.fptosi (F := Ideal) (φ := .f32) 32
      (∑ k : Fin N, ((((cen (xo k) zp).toInt : ℝ) : EReal) * Ideal.ofBits .f32 0x44000000#32)
        * Ideal.ofBits .fp8e4m3 (highNib (w k)) : EReal)))
    corr) bias

/-- The reference's accumulator at one element. -/
def rAcc {N : Nat} (xe xo w : Fin N → BitVec 8) (zp bias : BitVec 32) : BitVec 32 :=
  IntOp.addi (IntOp.subi
    (IntOp.addi
      (Finset.fold IntOp.addi 0#32 (fun k => IntOp.muli (BitVec.signExtend 32 (xe k)) (lowW (w k))) Finset.univ)
      (Finset.fold IntOp.addi 0#32 (fun k => IntOp.muli (BitVec.signExtend 32 (xo k)) (highW (w k))) Finset.univ))
    (IntOp.muli zp
      (IntOp.addi (Finset.fold IntOp.addi 0#32 (fun k => lowW (w k)) Finset.univ)
        (Finset.fold IntOp.addi 0#32 (fun k => highW (w k)) Finset.univ))))
    bias

/-- The kernel's correction: minus eight times the sum of the centred activations, of a row of pairs `x`. -/
def kCorr {N : Nat} (x : Fin N → Fin 2 → BitVec 8) (zp : BitVec 32) : BitVec 32 :=
  IntOp.muli 4294967288#32
    (Finset.fold IntOp.addi 0#32 (fun p : Fin N × Fin 2 => cen (x p.1 p.2) zp) Finset.univ)

/-- The two accumulators are the same word. -/
theorem acc_eq {N : Nat} (hN : N ≤ 100000) (x : Fin N → Fin 2 → BitVec 8) (w : Fin N → BitVec 8) (zp bias : BitVec 32)
    (h₁ : -128 ≤ zp.toInt) (h₂ : zp.toInt ≤ 127) :
    kAcc (fun k => x k 0) (fun k => x k 1) w zp (kCorr x zp) bias = rAcc (fun k => x k 0) (fun k => x k 1) w zp bias := by
  unfold kAcc rAcc kCorr
  rw [dot_exact N hN (fun k => cen (x k 0) zp) _ (fun k => cen_bound _ _ h₁ h₂) fun k => lowNib_lt _,
    dot_exact N hN (fun k => cen (x k 1) zp) _ (fun k => cen_bound _ _ h₁ h₂) fun k => highNib_lt _]
  simp only [fold_addi, Fintype.sum_prod_type, Fin.sum_univ_two, lowNib_eq, highNib_eq]
  have hc : ∀ y, cen y zp = BitVec.signExtend 32 y - zp := fun _ => rfl
  simp only [IntOp.addi, IntOp.subi, IntOp.muli, hc]
  have h8 : (4294967288#32 : BitVec 32) = -8 := by decide
  have h8' : (8#32 : BitVec 32) = 8 := rfl
  rw [h8, h8']
  congr 1
  simp only [mul_add, Finset.mul_sum, ← Finset.sum_add_distrib, ← Finset.sum_sub_distrib]
  refine Finset.sum_congr rfl fun k _ => ?_
  ring

end Cert.Words

end
-- ==== Proof.RoundShift.lean ====
/-
  The rounding shift of the fixed-point product, the output offset and the clamp: the way the kernel writes it (a select of the
  shift amount and of the mask, the sign folded into the remainder, the offset folded into the select) and the way the reference
  writes it (shifts of any amount, the sign folded into the threshold). They agree at every word but the least one.
-/
module

public import proofs.«01_k».proof.Proof.HighMul

@[expose] public section

set_option maxRecDepth 16384

noncomputable section

namespace Cert.Words

open Idealize.ShloMosaic

/-- Whether a right shift amount lies in `0 … 31`, as the kernel tests it. -/
def kIn (c : BitVec 32) : BitVec 1 := IntOp.andi (IntOp.cmpi .sge c 0#32) (IntOp.cmpi .slt c 32#32)

/-- The kernel's mask of the bits shifted out: all ones when the amount is out of range. -/
def kMask (c : BitVec 32) : BitVec 32 :=
  Scalar.select (kIn c) (IntOp.subi (IntOp.shli .vector 1#32 (Scalar.select (kIn c) c 0#32)) 1#32) 4294967295#32

/-- The kernel's tail at one element: the product `v`, the shift operand `sh` (a right shift is its negation), the output offset
    `z` and the clamp `lo`, `hi`. -/
def kTail (v sh z lo hi : BitVec 32) : BitVec 8 :=
  BitVec.setWidth 8
    (IntOp.minsi
      (IntOp.maxsi
        (IntOp.addi (IntOp.shrsi .vector v (Scalar.select (kIn (IntOp.subi 0#32 sh)) (IntOp.subi 0#32 sh) 31#32))
          (Scalar.select
            (IntOp.cmpi .sgt (IntOp.addi (IntOp.andi v (kMask (IntOp.subi 0#32 sh))) (IntOp.shrsi .vector v 31#32))
              (IntOp.shrsi .vector (kMask (IntOp.subi 0#32 sh)) 1#32))
            (Scalar.addi z 1#32) z))
        lo)
      hi)

/-- The reference's mask of the bits shifted out. -/
def rMask (c : BitVec 32) : BitVec 32 := IntOp.subi (IntOp.shli .host 1#32 c) 1#32

/-- The reference's tail at one element. -/
def rTail (v sh z lo hi : BitVec 32) : BitVec 8 :=
  BitVec.setWidth 8
    (IntOp.minsi hi
      (IntOp.maxsi lo
        (IntOp.addi
          (IntOp.addi (IntOp.shrsi .host v (-sh))
            (BitVec.setWidth 32
              (IntOp.cmpi .sgt (IntOp.andi v (rMask (-sh)))
                (IntOp.addi (IntOp.shrsi .host (rMask (-sh)) 1#32) (BitVec.setWidth 32 (IntOp.cmpi .slt v 0#32))))))
          z)))

/-- A signed comparison bit, by the signed values. -/
theorem slt_bit (x y : BitVec 32) : IntOp.cmpi .slt x y = if x.toInt < y.toInt then 1#1 else 0#1 := by
  show BitVec.ofBool (decide (x.toInt < y.toInt)) = _
  by_cases h : x.toInt < y.toInt <;> simp [h]

/-- The same for the strict comparison the other way round. -/
theorem sgt_bit (x y : BitVec 32) : IntOp.cmpi .sgt x y = if y.toInt < x.toInt then 1#1 else 0#1 := by
  show BitVec.ofBool (decide (y.toInt < x.toInt)) = _
  by_cases h : y.toInt < x.toInt <;> simp [h]

/-- The same for the comparison that admits equality. -/
theorem sge_bit (x y : BitVec 32) : IntOp.cmpi .sge x y = if y.toInt ≤ x.toInt then 1#1 else 0#1 := by
  show BitVec.ofBool (decide (y.toInt ≤ x.toInt)) = _
  by_cases h : y.toInt ≤ x.toInt <;> simp [h]

/-- The range test says that the amount, read unsigned, is below 32. -/
theorem kIn_eq (c : BitVec 32) : kIn c = if c.toNat < 32 then 1#1 else 0#1 := by
  have cc := toInt_cases c
  have z : (0#32 : BitVec 32).toInt = 0 := by decide
  have t : (32#32 : BitVec 32).toInt = 32 := by decide
  rw [kIn, sge_bit, slt_bit, z, t]
  by_cases h : c.toNat < 32
  · rw [if_pos h, if_pos (by omega), if_pos (by omega)]; rfl
  · rw [if_neg h]
    by_cases h0 : 0 ≤ c.toInt
    · rw [if_pos h0, if_neg (by omega)]; rfl
    · rw [if_neg h0]
      by_cases h1 : c.toInt < 32
      · rw [if_pos h1]; rfl
      · rw [if_neg h1]; rfl

/-- The kernel's mask is the reference's. -/
theorem kMask_eq (c : BitVec 32) : kMask c = rMask c := by
  rw [kMask, rMask, kIn_eq]
  by_cases h : c.toNat < 32
  · rw [if_pos h]
    show IntOp.subi (IntOp.shli .vector 1#32 c) 1#32 = _
    rw [IntOp.shli, IntOp.shli, if_pos h, if_pos h]
  · rw [if_neg h]
    show 4294967295#32 = _
    rw [IntOp.shli, if_neg h]
    rfl

/-- In range the mask is one less than a power of two at most `2^31`. -/
theorem rMask_in (c : BitVec 32) (h : c.toNat < 32) : (rMask c).toNat + 1 = 2 ^ c.toNat := by
  have hp : 2 ^ c.toNat ≤ 2 ^ 31 := Nat.pow_le_pow_right (by decide) (by omega)
  have h1 : 0 < 2 ^ c.toNat := Nat.two_pow_pos _
  rw [rMask, IntOp.shli, if_pos h]
  show ((1#32 <<< c.toNat) - 1#32).toNat + 1 = _
  rw [BitVec.toNat_sub, BitVec.toNat_shiftLeft, Nat.shiftLeft_eq]
  show (2 ^ 32 - 1 + 1 * 2 ^ c.toNat % 2 ^ 32) % 2 ^ 32 + 1 = _
  omega

/-- Out of range the mask is all ones. -/
theorem rMask_out (c : BitVec 32) (h : ¬ c.toNat < 32) : rMask c = 4294967295#32 := by
  rw [rMask, IntOp.shli, if_neg h]
  rfl

/-- The shift by the clamped amount is the shift by the amount. -/
theorem shift_eq (v c : BitVec 32) : IntOp.shrsi .vector v (Scalar.select (kIn c) c 31#32) = IntOp.shrsi .host v c := by
  rw [kIn_eq]
  by_cases h : c.toNat < 32
  · rw [if_pos h]
    show IntOp.shrsi .vector v c = _
    rw [IntOp.shrsi, IntOp.shrsi, if_pos h, if_pos h]
  · rw [if_neg h]
    show IntOp.shrsi .vector v 31#32 = _
    have e := shrsi_toInt .vector v 31 (by omega)
    change (IntOp.shrsi .vector v 31#32).toInt = _ at e
    have cv := toInt_cases v
    apply BitVec.eq_of_toInt_eq
    rw [e, IntOp.shrsi, if_neg h]
    show _ = (if v.msb then BitVec.allOnes 32 else 0#32).toInt
    have hb : v.msb = decide (2 ^ 31 ≤ v.toNat) := BitVec.msb_eq_decide v
    rw [hb]
    by_cases hv : 2 ^ 31 ≤ v.toNat
    · rw [if_pos (by simpa using hv)]
      have : (BitVec.allOnes 32).toInt = -1 := by decide
      rw [this]; omega
    · rw [if_neg (by simpa using hv)]
      have : (0#32 : BitVec 32).toInt = 0 := by decide
      rw [this]; omega

/-- The two rounding tests agree away from the least word. -/
theorem round_eq (v c : BitVec 32) (hv : -2 ^ 31 < v.toInt) :
    IntOp.cmpi .sgt (IntOp.addi (IntOp.andi v (rMask c)) (IntOp.shrsi .vector v 31#32)) (IntOp.shrsi .vector (rMask c) 1#32)
      = IntOp.cmpi .sgt (IntOp.andi v (rMask c)) (IntOp.addi (IntOp.shrsi .host (rMask c) 1#32) (BitVec.setWidth 32 (IntOp.cmpi .slt v 0#32))) := by
  have e := shrsi_toInt .vector v 31 (by omega)
  change (IntOp.shrsi .vector v 31#32).toInt = _ at e
  have cv := toInt_cases v
  have z : (0#32 : BitVec 32).toInt = 0 := by decide
  have m1 := shrsi_toInt .vector (rMask c) 1 (by omega)
  have m2 := shrsi_toInt .host (rMask c) 1 (by omega)
  change (IntOp.shrsi .vector (rMask c) 1#32).toInt = _ at m1
  change (IntOp.shrsi .host (rMask c) 1#32).toInt = _ at m2
  have sb : (BitVec.setWidth 32 (IntOp.cmpi .slt v 0#32)).toInt = if v.toInt < 0 then 1 else 0 := by
    rw [slt_bit, z]
    by_cases h : v.toInt < 0
    · rw [if_pos h, if_pos h]; decide
    · rw [if_neg h, if_neg h]; decide
  rw [sgt_bit, sgt_bit]
  generalize IntOp.shrsi .vector v 31#32 = s at *
  generalize BitVec.setWidth 32 (IntOp.cmpi .slt v 0#32) = b at *
  by_cases h : c.toNat < 32
  · have k := rMask_in c h
    have hp : 2 ^ c.toNat ≤ 2 ^ 31 := Nat.pow_le_pow_right (by decide) (by omega)
    have ha : (IntOp.andi v (rMask c)).toNat ≤ (rMask c).toNat := by
      show (v &&& rMask c).toNat ≤ _
      rw [BitVec.toNat_and]
      exact Nat.and_le_right
    have ca := toInt_cases (IntOp.andi v (rMask c))
    have cm := toInt_cases (rMask c)
    generalize IntOp.andi v (rMask c) = t at *
    generalize rMask c = mk at *
    rw [add_toInt t s (by omega) (by omega), add_toInt _ b (by split at sb <;> omega) (by split at sb <;> omega), m1, m2, sb, e]
    congr 1
    apply propext
    split <;> omega
  · rw [rMask_out c h] at *
    have ea : IntOp.andi v 4294967295#32 = v := by
      show v &&& BitVec.allOnes 32 = v
      exact BitVec.and_allOnes
    have o : (4294967295#32 : BitVec 32).toInt = -1 := by decide
    rw [ea, add_toInt v s (by omega) (by omega), add_toInt _ b (by split at sb <;> omega) (by split at sb <;> omega), m1, m2, sb, e, o]
    congr 1
    apply propext
    split <;> omega

/-- The two tails agree away from the least word. -/
theorem kTail_eq (v sh z lo hi : BitVec 32) (hv : -2 ^ 31 < v.toInt) : kTail v sh z lo hi = rTail v sh z lo hi := by
  have en : IntOp.subi 0#32 sh = -sh := by
    show 0#32 - sh = -sh
    exact BitVec.zero_sub sh
  rw [kTail, rTail, en, shift_eq, kMask_eq, round_eq v (-sh) hv]
  generalize IntOp.shrsi .host v (-sh) = q
  generalize hb : IntOp.cmpi .sgt (IntOp.andi v (rMask (-sh))) _ = b
  have hadd : IntOp.addi q (Scalar.select b (Scalar.addi z 1#32) z) = IntOp.addi (IntOp.addi q (BitVec.setWidth 32 b)) z := by
    have hb2 : b = 1#1 ∨ b = 0#1 := by
      rw [← hb, sgt_bit]
      split
      · exact Or.inl rfl
      · exact Or.inr rfl
    rcases hb2 with rfl | rfl
    · show q + (z + 1#32) = q + 1#32 + z
      rw [BitVec.add_comm z, ← BitVec.add_assoc]
    · show q + z = q + 0#32 + z
      rw [BitVec.add_zero]
  rw [hadd]
  generalize IntOp.addi (IntOp.addi q (BitVec.setWidth 32 b)) z = x
  have hmax : IntOp.maxsi x lo = IntOp.maxsi lo x := by
    show (if lo.slt x then x else lo) = (if x.slt lo then lo else x)
    rw [BitVec.slt, BitVec.slt]
    by_cases h1 : x.toInt < lo.toInt
    · rw [if_neg (by simp; omega), if_pos (by simpa using h1)]
    · rw [if_neg (c := decide (x.toInt < lo.toInt) = true) (by simpa using h1)]
      by_cases h2 : lo.toInt < x.toInt
      · rw [if_pos (by simpa using h2)]
      · rw [if_neg (by simpa using h2)]
        exact BitVec.eq_of_toInt_eq (by omega)
  have hmin : ∀ y : BitVec 32, IntOp.minsi y hi = IntOp.minsi hi y := by
    intro x
    show (if x.slt hi then x else hi) = (if hi.slt x then hi else x)
    rw [BitVec.slt, BitVec.slt]
    by_cases h1 : x.toInt < hi.toInt
    · rw [if_pos (by simpa using h1), if_neg (by simp; omega)]
    · rw [if_neg (by simpa using h1)]
      by_cases h2 : hi.toInt < x.toInt
      · rw [if_pos (by simpa using h2)]
      · rw [if_neg (by simpa using h2)]
        exact BitVec.eq_of_toInt_eq (by omega)
  rw [hmax, hmin]

/-- The product and the tail together: kernel and reference store one byte for every accumulator and nonnegative multiplier. -/
theorem requant_eq (a m sh z lo hi : BitVec 32) (hm : 0 ≤ m.toInt) :
    kTail (kHighMul a m) sh z lo hi = rTail (rHighMul a m) sh z lo hi := by
  rw [kHighMul_eq_rHighMul a m hm]
  exact kTail_eq _ _ _ _ _ (rHighMul_gt a m hm)

end Cert.Words

end
-- ==== Proof.KernelEntry.lean ====
/-
  What the operations before the kernel's launch leave in the buffers it reads: the three scalars, the centred and scaled
  activations split into even and odd columns, the correction of every row, and the bias, multiplier and shift as one row.
-/
module

public import proofs.«01_k».proof.Proof.Gen.KernelIdeal.Frame
public import proofs.«01_k».proof.Proof.Accum
public import proofs.«01_k».proof.Proof.RoundShift
public import Idealize.ShloMosaic.Lib.Claim
public import Idealize.ShloMosaic.Lib.Pipeline.ValueKit
public import Idealize.ShloMosaic.Lib.Pointwise
public import Idealize.ShloMosaic.Lib.StableHlo.RunRead

@[expose] public section

set_option maxRecDepth 16384

noncomputable section

namespace Cert.KernelIdeal.Value

open Idealize.ShloMosaic Idealize.ShloMosaic.TcCoe Idealize.SL.Sem Cert.KernelIdeal Cert.KernelIdeal.Gen

variable (m : (ℓ : Loc nD τ sig) → Buf (Elt Ideal) ℓ)

/-- The region finds what the host line before it leaves. -/
theorem V_eq (c : Dev nD) (b : Ref sig .tc) : V m c b = StableHlo.after hostOps0 (fun b => m (c, b)) (Proc.devRef .tc b) := by
  show StableHlo.after (List.flatten [hostOps0]) _ _ = _
  rw [List.flatten_cons, List.flatten_nil, List.append_nil]

/-- Three one-element vectors side by side. -/
def cat3 (x y z : S1.Idx → BitVec 32) : S3.Idx → BitVec 32 :=
  concatenate S3 0 [⟨S1, x⟩, ⟨S1, y⟩, ⟨S1, z⟩] concatenates_S1_S1_S1_S3_d0

/-- The output zero point, as the first entry of the scalar triple. -/
theorem upto_v13 (c : Dev nD) : StableHlo.upto hostOps0 (fun b => m (c, b)) 19 (Proc.devRef .tc main_v13)
    = broadcastInDim S1 ![] bcast_S_S1 (m ((c : Thread nD τ).loc main_arg6)) := by
  after_reads_simp

/-- The lower activation bound, as the second entry of the scalar triple. -/
theorem upto_v14 (c : Dev nD) : StableHlo.upto hostOps0 (fun b => m (c, b)) 19 (Proc.devRef .tc main_v14)
    = broadcastInDim S1 ![] bcast_S_S1 (m ((c : Thread nD τ).loc main_arg7)) := by
  after_reads_simp

/-- The upper activation bound, as the third entry of the scalar triple. -/
theorem upto_v15 (c : Dev nD) : StableHlo.upto hostOps0 (fun b => m (c, b)) 19 (Proc.devRef .tc main_v15)
    = broadcastInDim S1 ![] bcast_S_S1 (m ((c : Thread nD τ).loc main_arg8)) := by
  after_reads_simp

/-- The kernel's three scalars: the output zero point and the clamp, side by side. -/
theorem V_scal (c : Dev nD) : V m c main_v16
    = cat3 (broadcastInDim S1 ![] bcast_S_S1 (m ((c : Thread nD τ).loc main_arg6)))
        (broadcastInDim S1 ![] bcast_S_S1 (m ((c : Thread nD τ).loc main_arg7)))
        (broadcastInDim S1 ![] bcast_S_S1 (m ((c : Thread nD τ).loc main_arg8))) := by
  rw [← upto_v13 m c, ← upto_v14 m c, ← upto_v15 m c]
  generalize hx : cat3 _ _ _ = x
  rw [V_eq]
  unfold_abbrev_sides
  after_reads_simp
  exact hx

/-- Scalar 0 at the region's entry is the output zero point. -/
theorem V_scal0 (c : Dev nD) : V m c main_v16 (ix1 0) = m ((c : Thread nD τ).loc main_arg6) ix0 := by
  rw [V_scal]
  pointwise [cat3]
/-- Scalar 1 at the region's entry is the lower activation bound. -/
theorem V_scal1 (c : Dev nD) : V m c main_v16 (ix1 1) = m ((c : Thread nD τ).loc main_arg7) ix0 := by
  rw [V_scal]
  pointwise [cat3]
/-- Scalar 2 at the region's entry is the upper activation bound. -/
theorem V_scal2 (c : Dev nD) : V m c main_v16 (ix1 2) = m ((c : Thread nD τ).loc main_arg8) ix0 := by
  rw [V_scal]
  pointwise [cat3]

/-- The centred, scaled activation at even place `2k` of row `r`. -/
theorem V_even (c : Dev nD) (r : Fin 48) (k : Fin 3072) : V m c main_v18 (ix2 r k)
    = ((((Words.cen (m ((c : Thread nD τ).loc main_arg0) (ix3 ⟨r.val / 8, by omega⟩ ⟨r.val % 8, by omega⟩ ⟨k.val * 2, by omega⟩))
        (m ((c : Thread nD τ).loc main_arg1) ix0)).toInt : ℝ) : EReal) * Ideal.ofBits .f32 0x44000000#32 : EReal) := by
  rw [V_eq]
  entry_read
  pointwise
  rfl

/-- The centred, scaled activation at odd place `2k + 1` of row `r`. -/
theorem V_odd (c : Dev nD) (r : Fin 48) (k : Fin 3072) : V m c main_v20 (ix2 r k)
    = ((((Words.cen (m ((c : Thread nD τ).loc main_arg0) (ix3 ⟨r.val / 8, by omega⟩ ⟨r.val % 8, by omega⟩ ⟨k.val * 2 + 1, by omega⟩))
        (m ((c : Thread nD τ).loc main_arg1) ix0)).toInt : ℝ) : EReal) * Ideal.ofBits .f32 0x44000000#32 : EReal) := by
  rw [V_eq]
  entry_read
  pointwise
  rfl

/-- The correction of row `r`: minus eight times the sum of its centred activations. -/
theorem V_corr (c : Dev nD) (r : Fin 48) (k : Fin 128) : V m c main_v8 (ix2 r k)
    = Words.kCorr (fun (k : Fin 3072) (p : Fin 2) =>
        m ((c : Thread nD τ).loc main_arg0) (ix3 ⟨r.val / 8, by omega⟩ ⟨r.val % 8, by omega⟩ ⟨k.val * 2 + p.val, by omega⟩))
        (m ((c : Thread nD τ).loc main_arg1) ix0) := by
  rw [V_eq]
  entry_read
  pointwise
  rfl

/-- The bias, one row. -/
theorem V_bias (c : Dev nD) (k : Fin 16384) : V m c main_v21 (ix2 0 k) = m ((c : Thread nD τ).loc main_arg3) (ix1 k) := by
  rw [V_eq]
  entry_read
  pointwise

/-- The multipliers, one row. -/
theorem V_mult (c : Dev nD) (k : Fin 16384) : V m c main_v22 (ix2 0 k) = m ((c : Thread nD τ).loc main_arg4) (ix1 k) := by
  rw [V_eq]
  entry_read
  pointwise

/-- The shifts, one row. -/
theorem V_shift (c : Dev nD) (k : Fin 16384) : V m c main_v23 (ix2 0 k) = m ((c : Thread nD τ).loc main_arg5) (ix1 k) := by
  rw [V_eq]
  entry_read
  pointwise

end Cert.KernelIdeal.Value

end
-- ==== Proof.KernelValue.lean ====
/-
  What the kernel's launch leaves in its result array: at row `r` and column `n` the word `kOut`, by the block that row and column
  lie in, over the contents of the blocks the body reads there.
-/
module

public import proofs.«01_k».proof.Proof.KernelEntry

@[expose] public section

set_option maxRecDepth 16384

noncomputable section

namespace Cert.KernelIdeal.Value

open Idealize.ShloMosaic Idealize.ShloMosaic.TcCoe Idealize.SL.Sem Cert.KernelIdeal Cert.KernelIdeal.Gen
open Idealize.ShloMosaic.Pipeline (Dat)

variable (m : (ℓ : Loc nD τ sig) → Buf (Elt Ideal) ℓ)

/-- The kernel's result at row `r` and column `n`, from the launch contents. -/
def kOut (c : Dev nD) (r : Fin 48) (n : Fin 16384) : BitVec 8 :=
  Words.kTail
    (Words.kHighMul
      (Words.kAcc
        (fun k : Fin 3072 => m ((c : Thread nD τ).loc main_arg0) (ix3 ⟨r.val / 8, by omega⟩ ⟨r.val % 8, by omega⟩ ⟨k.val * 2, by omega⟩))
        (fun k : Fin 3072 => m ((c : Thread nD τ).loc main_arg0) (ix3 ⟨r.val / 8, by omega⟩ ⟨r.val % 8, by omega⟩ ⟨k.val * 2 + 1, by omega⟩))
        (fun k : Fin 3072 => m ((c : Thread nD τ).loc main_arg2) (ix2 n k))
        (m ((c : Thread nD τ).loc main_arg1) ix0)
        (Words.kCorr (fun (k : Fin 3072) (p : Fin 2) =>
          m ((c : Thread nD τ).loc main_arg0) (ix3 ⟨r.val / 8, by omega⟩ ⟨r.val % 8, by omega⟩ ⟨k.val * 2 + p.val, by omega⟩))
          (m ((c : Thread nD τ).loc main_arg1) ix0))
        (m ((c : Thread nD τ).loc main_arg3) (ix1 n)))
      (m ((c : Thread nD τ).loc main_arg4) (ix1 n)))
    (m ((c : Thread nD τ).loc main_arg5) (ix1 n))
    (m ((c : Thread nD τ).loc main_arg6) ix0) (m ((c : Thread nD τ).loc main_arg7) ix0) (m ((c : Thread nD τ).loc main_arg8) ix0)

/-- The kernel's result, 48 rows of 16384. -/
def kArr (c : Dev nD) : S48x16384.Idx → BitVec 8 := fun y => kOut m c (y 0) (y 1)

/-- The kernel's accumulator at one element of a block, over the contents of the blocks it reads. -/
theorem acc_at (x4 : Vec Ideal S512x3072 .i8) (x1 x2 : Vec Ideal S48x3072 .bf16) (v21 : Vec Ideal S48x1 .i32)
    (x5 : Vec Ideal S1x512 .i32) (r : Fin 48) (l : Fin 512) (xe xo w : Fin 3072 → BitVec 8) (zp : BitVec 32)
    (h1 : ∀ k, x1 (ix2 r k) = ((((Words.cen (xe k) zp).toInt : ℝ) : EReal) * Ideal.ofBits .f32 0x44000000#32 : EReal))
    (h2 : ∀ k, x2 (ix2 r k) = ((((Words.cen (xo k) zp).toInt : ℝ) : EReal) * Ideal.ofBits .f32 0x44000000#32 : EReal))
    (h4 : ∀ k, x4 (ix2 l k) = w k) :
    k0_pay2 (F := Ideal) x4 x1 x2 v21 x5 (ix2 r l) = Words.kAcc xe xo w zp (v21 (ix2 r 0)) (x5 (ix2 0 l)) := by
  have e : k0_pay2 (F := Ideal) x4 x1 x2 v21 x5 (ix2 r l) = IntOp.addi (IntOp.addi (IntOp.addi
      (FloatOps.fptosi (F := Ideal) (φ := .f32) 32
        (∑ k : Fin 3072, (x1 (ix2 r k) : EReal) * Ideal.ofBits .fp8e4m3 (Words.lowNib (x4 (ix2 l k))) : EReal))
      (FloatOps.fptosi (F := Ideal) (φ := .f32) 32
        (∑ k : Fin 3072, (x2 (ix2 r k) : EReal) * Ideal.ofBits .fp8e4m3 (Words.highNib (x4 (ix2 l k))) : EReal)))
      (v21 (ix2 r 0))) (x5 (ix2 0 l)) := by
    pointwise [k0_pay2]
    have hl := fun k : Fin 3072 => Words.low_byte x4 bitcasts_S512x3072_w8_S128x3072_w32 bitcasts_S128x3072_w32_S512x3072_w8 rfl l k
    have hh := fun k : Fin 3072 => Words.high_byte x4 bitcasts_S512x3072_w8_S128x3072_w32 bitcasts_S128x3072_w32_S512x3072_w8 rfl l k
    exact congrArg (IntOp.addi · _) (congrArg (IntOp.addi · _) (congrArg₂ IntOp.addi
      (congrArg _ (Finset.sum_congr rfl fun k _ => congrArg _ (congrArg _ (hl k))))
      (congrArg _ (Finset.sum_congr rfl fun k _ => congrArg _ (congrArg _ (hh k))))))
  rw [e]
  simp only [h1, h2, h4]
  rfl

/-- The kernel's stored word at one element of a block, over the contents of the blocks it reads. -/
theorem payload_at (x4 : Vec Ideal S512x3072 .i8) (x1 x2 : Vec Ideal S48x3072 .bf16) (v21 : Vec Ideal S48x1 .i32)
    (x5 x6 x7 : Vec Ideal S1x512 .i32) (z lo hi : BitVec 32) (r : Fin 48) (l : Fin 512) :
    k0_pay1 (F := Ideal) (k0_pay7 (k0_pay3 (F := Ideal) x6) (k0_pay4 (F := Ideal) x4 x1 x2 v21 x5) (k0_pay5 (F := Ideal) x4 x1 x2 v21 x5)
      (k0_pay6 (F := Ideal) x6) 65535#32) (k0_pay8 (F := Ideal) x7) (k0_pay9 (F := Ideal) x7) (k0_pay10 (F := Ideal) x7)
      4294967295#32 z lo hi (ix2 r l)
      = Words.kTail (Words.kHighMul (k0_pay2 (F := Ideal) x4 x1 x2 v21 x5 (ix2 r l)) (x6 (ix2 0 l))) (x7 (ix2 0 l)) z lo hi := by
  pointwise [k0_pay1, k0_pay7, k0_pay3, k0_pay4, k0_pay5, k0_pay6, k0_pay8, k0_pay9, k0_pay10]
  rfl

/-- Where each block lies in its array. -/
theorem idx : ∀ t : Fin cfg0.N, win0_0.index t = ![0] ∧ win0_1.index t = ![0, 0] ∧ win0_2.index t = ![0, 0] ∧ win0_3.index t = ![0, 0]
    ∧ win0_4.index t = ![t.val, 0] ∧ win0_5.index t = ![0, t.val] ∧ win0_6.index t = ![0, t.val] ∧ win0_7.index t = ![0, t.val]
    ∧ win0_8.index t = ![0, t.val] :=
  (by decide +kernel : ∀ t : Fin grid0.N, _)

/-- The grid has 32 points. -/
theorem t_lt (t : Fin cfg0.N) : t.val < 32 := t.isLt

/-- The scalars, the same at every grid point. -/
theorem blk0 (c : Dev nD) (t : Fin cfg0.N) (i : Fin 3) : iblk m c 0 t (ix1 i) = V m c main_v16 (ix1 i) := by
  blk_ext! [iblk, idx t]

/-- The even activations, whole at every grid point. -/
theorem blk1 (c : Dev nD) (t : Fin cfg0.N) (r : Fin 48) (k : Fin 3072) : iblk m c 1 t (ix2 r k) = V m c main_v18 (ix2 r k) := by
  blk_ext! [iblk, idx t]

/-- The odd activations, whole at every grid point. -/
theorem blk2 (c : Dev nD) (t : Fin cfg0.N) (r : Fin 48) (k : Fin 3072) : iblk m c 2 t (ix2 r k) = V m c main_v20 (ix2 r k) := by
  blk_ext! [iblk, idx t]

/-- The correction, whole at every grid point. -/
theorem blk3 (c : Dev nD) (t : Fin cfg0.N) (r : Fin 48) (k : Fin 128) : iblk m c 3 t (ix2 r k) = V m c main_v8 (ix2 r k) := by
  blk_ext! [iblk, idx t]

/-- The packed weights: grid point `t` reads rows `512 t` and up. -/
theorem blk4 (c : Dev nD) (t : Fin cfg0.N) (l : Fin 512) (k : Fin 3072) :
    iblk m c 4 t (ix2 l k) = m ((c : Thread nD τ).loc main_arg2) (ix2 ⟨t.val * 512 + l.val, by have := t_lt t; omega⟩ k) := by
  blk_ext! [iblk, V, idx t]

/-- The bias: grid point `t` reads columns `512 t` and up. -/
theorem blk5 (c : Dev nD) (t : Fin cfg0.N) (l : Fin 512) :
    iblk m c 5 t (ix2 0 l) = V m c main_v21 (ix2 0 ⟨t.val * 512 + l.val, by have := t_lt t; omega⟩) := by
  blk_ext! [iblk, idx t]

/-- The multipliers: grid point `t` reads columns `512 t` and up. -/
theorem blk6 (c : Dev nD) (t : Fin cfg0.N) (l : Fin 512) :
    iblk m c 6 t (ix2 0 l) = V m c main_v22 (ix2 0 ⟨t.val * 512 + l.val, by have := t_lt t; omega⟩) := by
  blk_ext! [iblk, idx t]

/-- The shifts: grid point `t` reads columns `512 t` and up. -/
theorem blk7 (c : Dev nD) (t : Fin cfg0.N) (l : Fin 512) :
    iblk m c 7 t (ix2 0 l) = V m c main_v23 (ix2 0 ⟨t.val * 512 + l.val, by have := t_lt t; omega⟩) := by
  blk_ext! [iblk, idx t]

/-- The result: grid point `t` writes columns `512 t` and up. -/
theorem emb8 (t : Fin cfg0.N) (r : Fin 48) (l : Fin 512) :
    ((View.whole main_v24).slice (win0_8.rect t)).emb (ix2 r l) = ix2 r ⟨t.val * 512 + l.val, by have := t_lt t; omega⟩ := by
  blk_ext! [idx t]

/-- Loading the first scalar. -/
theorem ld0 (x : S3.Idx → BitVec 32) (h : 0 < (Rect.unit (s := S3) ![0] ![1] inb_S3_S1_0).shape.numel) :
    View.ld (Val := Elt Ideal) (e' := .i32) x (Rect.unit ![0] ![1] inb_S3_S1_0) (Shape.Idx.first h) = x (ix1 0) := by
  refine View.ld_unit_apply_of _ _ _ _ _ _ fun a => ?_
  match a with
  | ⟨0, _⟩ => rfl

/-- Loading the second scalar. -/
theorem ld1 (x : S3.Idx → BitVec 32) (h : 0 < (Rect.unit (s := S3) ![1] ![1] inb_S3_S1_1).shape.numel) :
    View.ld (Val := Elt Ideal) (e' := .i32) x (Rect.unit ![1] ![1] inb_S3_S1_1) (Shape.Idx.first h) = x (ix1 1) := by
  refine View.ld_unit_apply_of _ _ _ _ _ _ fun a => ?_
  match a with
  | ⟨0, _⟩ => rfl

/-- Loading the third scalar. -/
theorem ld2 (x : S3.Idx → BitVec 32) (h : 0 < (Rect.unit (s := S3) ![2] ![1] inb_S3_S1_2).shape.numel) :
    View.ld (Val := Elt Ideal) (e' := .i32) x (Rect.unit ![2] ![1] inb_S3_S1_2) (Shape.Idx.first h) = x (ix1 2) := by
  refine View.ld_unit_apply_of _ _ _ _ _ _ fun a => ?_
  match a with
  | ⟨0, _⟩ => rfl

/-- Loading the first column of the correction. -/
theorem ld3 (x : S48x128.Idx → BitVec 32) (r : Fin 48) :
    View.ld (Val := Elt Ideal) (e' := .i32) x (Rect.unit ![0, 0] ![48, 1] inb_S48x128_S48x1_0_0) (ix2 r 0) = x (ix2 r 0) := by
  refine View.ld_unit_apply_of _ _ _ _ _ _ fun a => ?_
  match a with
  | ⟨0, _⟩ => show r.val = 0 + r.val; omega
  | ⟨1, _⟩ => rfl

set_option maxHeartbeats 1000000 in
/-- After the launch the result array holds `kOut` at every row and column. -/
theorem final (c : Dev nD) : (dats m 0 c).arrAt 8 (cfgs 0).N = kArr m c := by
  refine (dats m 0 c).arrAt_eq_of_covers 8 _ (by decide +kernel) fun t _ y => ?_
  blk_simp
  rw [after0_8]
  unfold outsAt0
  frame_out
  idx_vars y
  rw [emb8 t y0 y1]
  refine (payload_at _ _ _ _ _ _ _ _ _ _ y0 y1).trans ?_
  rw [acc_at _ _ _ _ _ y0 y1 _ _ _ _ (fun k => (blk1 m c t y0 k).trans (V_even m c y0 k))
    (fun k => (blk2 m c t y0 k).trans (V_odd m c y0 k)) (fun k => blk4 m c t y1 k)]
  rw [ld0, ld1, ld2, ld3, blk0, blk0, blk0, blk3, blk5, blk6, blk7, V_scal0, V_scal1, V_scal2, V_corr, V_bias, V_mult, V_shift]
  rfl

/-- The host line after the launch reads the result's 48 rows as six batches of eight. -/
theorem tail_v25 (c : Dev nD) : Pipeline.afterTail₀ cfgs (dats m) 0 (V0 m) [hostOps1] c main_v25
    = shapeCast S6x8x16384 (kArr m c) shapeCasts_S48x16384_S6x8x16384 := by
  unfold Pipeline.afterTail₀
  generalize hx : shapeCast S6x8x16384 (kArr m c) shapeCasts_S48x16384_S6x8x16384 = x
  rw [List.flatten_cons, List.flatten_nil, List.append_nil]
  unfold_abbrev_sides
  after_results
  rw [← hx]
  have e : Pipeline.withArrays (cfgs 0).spec c (V0 m c) (fun w => (dats m 0 c).arrAt w (cfgs 0).N) (Proc.devRef .tc main_v24)
      = kArr m c :=
    (Pipeline.withArrays_arr (cfgs 0).spec (by exact (by decide : Function.Injective (Pipeline.arrRef spec0))) c (V0 m c) _ 8).trans (final m c)
  exact congrArg (fun z => shapeCast S6x8x16384 z shapeCasts_S48x16384_S6x8x16384) e

end Cert.KernelIdeal.Value

end
-- ==== Proof.RefValue.lean ====
/-
  The reference's result at one element, batch `b`, position `s`, column `n`: the accumulator `rAcc` of that row of activations and
  that column of packed weights, its fixed-point product with the column's multiplier, its rounding shift, offset and clamp.
-/
module

public import proofs.«01_k».proof.Proof.Gen.ReferenceIdeal.Run
public import proofs.«01_k».proof.Proof.Accum
public import proofs.«01_k».proof.Proof.RoundShift
public import Idealize.ShloMosaic.Lib.Pointwise

@[expose] public section

set_option maxRecDepth 16384

noncomputable section

namespace Cert.ReferenceIdeal.Value

open Idealize.ShloMosaic Idealize.ShloMosaic.TcCoe Idealize.SL.Sem Cert.ReferenceIdeal Cert.ReferenceIdeal.Gen Idealize.ShloMosaic.StableHlo

variable (V0 : Valuation τ sig (Elt Ideal))

/-- The sum of a row of 32-bit words. -/
theorem row_sum (v : IVec S16384x3072 32) (n : Fin 16384) :
    Host.reduce IntOp.addi v (constantI S_ 32 0#32) reducesTo_S16384x3072_S16384_d1 h_S_ (ix1 n)
      = Finset.fold IntOp.addi 0#32 (fun k : Fin 3072 => v (ix2 n k)) Finset.univ := by
  rw [Host.reduce_eq_fold]
  exact Shape.ReducesTo.fold_fiber_r2_a1 reducesTo_S16384x3072_S16384_d1 (ix1 n) IntOp.addi 0#32 v

/-- The reference's low weight of byte `k` of row `n`. -/
theorem low_at (n : Fin 16384) (k : Fin 3072) :
    extsi 32 (res_main_v7 V0) natLt_8_32 (ix2 n k) = Words.lowW (V0 (Proc.devRef .tc main_arg2) (ix2 n k)) := by
  pointwise [res_main_v7, res_main_v0]
  rfl

/-- The reference's high weight of byte `k` of row `n`. -/
theorem high_nib_at (n : Fin 16384) (k : Fin 3072) :
    extsi 32 (res_main_v16 V0) natLt_8_32 (ix2 n k) = Words.highW (V0 (Proc.devRef .tc main_arg2) (ix2 n k)) := by
  pointwise [res_main_v16, res_main_v0]
  rfl

/-- The reference's accumulator at one element. -/
theorem acc_at (b : Fin 6) (s : Fin 8) (n : Fin 16384) :
    res_main_v48 V0 (ix3 b s n) = Words.rAcc
      (fun k : Fin 3072 => V0 (Proc.devRef .tc main_arg0) (ix3 b s ⟨2 * k.val, by omega⟩))
      (fun k : Fin 3072 => V0 (Proc.devRef .tc main_arg0) (ix3 b s ⟨1 + 2 * k.val, by omega⟩))
      (fun k : Fin 3072 => V0 (Proc.devRef .tc main_arg2) (ix2 n k))
      (V0 (Proc.devRef .tc main_arg1) ix0) (V0 (Proc.devRef .tc main_arg3) (ix1 n)) := by
  unfold res_main_v48
  generalize hA : Host.reduce IntOp.addi (extsi 32 (res_main_v7 V0) natLt_8_32) (constantI S_ 32 0#32)
    reducesTo_S16384x3072_S16384_d1 h_S_ = A
  generalize hB : Host.reduce IntOp.addi (extsi 32 (res_main_v16 V0) natLt_8_32) (constantI S_ 32 0#32)
    reducesTo_S16384x3072_S16384_d1 h_S_ = B
  have eA : A (ix1 n) = Finset.fold IntOp.addi 0#32
      (fun k : Fin 3072 => Words.lowW (V0 (Proc.devRef .tc main_arg2) (ix2 n k))) Finset.univ := by
    rw [← hA, row_sum]
    exact congrArg (fun f => Finset.fold IntOp.addi 0#32 f Finset.univ) (funext fun k => low_at V0 n k)
  have eB : B (ix1 n) = Finset.fold IntOp.addi 0#32
      (fun k : Fin 3072 => Words.highW (V0 (Proc.devRef .tc main_arg2) (ix2 n k))) Finset.univ := by
    rw [← hB, row_sum]
    exact congrArg (fun f => Finset.fold IntOp.addi 0#32 f Finset.univ) (funext fun k => high_nib_at V0 n k)
  unfold Words.rAcc
  rw [← eA, ← eB]
  pointwise [res_main_v7, res_main_v16, res_main_v0]
  rfl

/-- The reference's fixed-point product at one element. -/
theorem high_at (b : Fin 6) (s : Fin 8) (n : Fin 16384) :
    res_main_v104 V0 (ix3 b s n)
      = Words.rHighMul (res_main_v48 V0 (ix3 b s n)) (V0 (Proc.devRef .tc main_arg4) (ix1 n)) := by
  pointwise [res_main_v104, res_main_v102, res_main_v85, res_main_v81, res_main_v76, res_main_v70, res_main_v67, res_main_v64, res_main_v61, res_main_v59, res_main_v57, res_main_v55, res_main_v53, res_main_v52, res_main_v50, id]
  rfl

/-- The reference's result. -/
abbrev result : S6x8x16384.Idx → BitVec 8 :=
  trunci 8 (minsi (broadcastInDim S6x8x16384 ![] bcast_S_S6x8x16384 (V0 (Proc.devRef .tc main_arg8))) (maxsi (broadcastInDim S6x8x16384 ![] bcast_S_S6x8x16384 (V0 (Proc.devRef .tc main_arg7))) (addi (addi (Host.shrsi (res_main_v104 V0) (broadcastInDim S6x8x16384 ![0, 1, 2] bcast_S1x1x16384_S6x8x16384_0_1_2 (broadcastInDim S1x1x16384 ![2] bcast_S16384_S1x1x16384_2 (res_main_v105 V0)))) (extui 32 (cmpi .sgt (andi (res_main_v104 V0) (broadcastInDim S6x8x16384 ![0, 1, 2] bcast_S1x1x16384_S6x8x16384_0_1_2 (broadcastInDim S1x1x16384 ![2] bcast_S16384_S1x1x16384_2 (res_main_v109 V0)))) (addi (broadcastInDim S6x8x16384 ![0, 1, 2] bcast_S1x1x16384_S6x8x16384_0_1_2 (broadcastInDim S1x1x16384 ![2] bcast_S16384_S1x1x16384_2 (Host.shrsi (res_main_v109 V0) (broadcastInDim S16384 ![] bcast_S_S16384 (constantI S_ 32 1#32))))) (extui 32 (cmpi .slt (res_main_v104 V0) (broadcastInDim S6x8x16384 ![] bcast_S_S6x8x16384 (constantI S_ 32 0#32))) natLt_1_32))) natLt_1_32)) (broadcastInDim S6x8x16384 ![] bcast_S_S6x8x16384 (V0 (Proc.devRef .tc main_arg6)))))) natLt_8_32

/-- The reference's result at one element. -/
theorem result_at (b : Fin 6) (s : Fin 8) (n : Fin 16384) :
    result V0 (ix3 b s n)
      = Words.rTail (res_main_v104 V0 (ix3 b s n)) (V0 (Proc.devRef .tc main_arg5) (ix1 n)) (V0 (Proc.devRef .tc main_arg6) ix0)
          (V0 (Proc.devRef .tc main_arg7) ix0) (V0 (Proc.devRef .tc main_arg8) ix0) := by
  pointwise [result, res_main_v105, res_main_v109]
  rfl

end Cert.ReferenceIdeal.Value

end
-- ==== Proof.Same.lean ====
/-
  The kernel's result is the reference's, element by element: one launch memory of each program,
  agreeing on the nine arguments, with the zero point in [-128, 127] and no multiplier negative.
-/
module

public import proofs.«01_k».proof.Defs
public import proofs.«01_k».proof.Proof.KernelValue
public import proofs.«01_k».proof.Proof.RefValue
public import proofs.«01_k».proof.Proof.RoundShift
public import proofs.«01_k».proof.Proof.Gen.Pre_quantised
public import Idealize.ShloMosaic.Lib.Claim

@[expose] public section

set_option maxRecDepth 16384

noncomputable section

namespace Cert.Same

open Idealize.ShloMosaic Idealize.SL.Sem

/-- The precondition, all ones: the zero point lies in [-128, 127] and every multiplier is at least zero. -/
theorem pre_bounds (x0 : IVec ⟨3, ![6, 8, 6144]⟩ 8) (x1 : IVec ⟨0, ![]⟩ 32) (x2 : IVec ⟨2, ![16384, 3072]⟩ 8)
    (x3 x4 x5 : IVec ⟨1, ![16384]⟩ 32) (x6 x7 x8 : IVec ⟨0, ![]⟩ 32)
    (h : (Cert.Pre_quantised.fn (F := Ideal) x0 x1 x2 x3 x4 x5 x6 x7 x8).1 = (fun _ => 1#1)
      ∧ (Cert.Pre_quantised.fn (F := Ideal) x0 x1 x2 x3 x4 x5 x6 x7 x8).2 = (fun _ => 1#1)) :
    (-128 ≤ (x1 ValueIdx.ix0).toInt ∧ (x1 ValueIdx.ix0).toInt ≤ 127) ∧ ∀ n : Fin 16384, 0 ≤ (x4 (ValueIdx.ix1 n)).toInt := by
  obtain ⟨ha, hb⟩ := h
  refine ⟨?_, fun n => ?_⟩
  · have e := congrFun ha ValueIdx.ix0
    have e' : BitVec.ofBool (BitVec.sle 4294967168#32 (x1 ValueIdx.ix0))
        &&& BitVec.ofBool (BitVec.sle (x1 ValueIdx.ix0) 127#32) = 1#1 := e
    generalize x1 ValueIdx.ix0 = z at e' ⊢
    by_cases h1 : BitVec.sle 4294967168#32 z <;> by_cases h2 : BitVec.sle z 127#32
    · rw [BitVec.sle_iff_toInt_le] at h1 h2
      exact ⟨by simpa using h1, by simpa using h2⟩
    all_goals simp [h1, h2] at e'
  · have e := congrFun hb (ValueIdx.ix1 n)
    have e' : BitVec.ofBool (BitVec.sle 0#32 (x4 (ValueIdx.ix1 n))) = 1#1 := e
    by_cases h1 : BitVec.sle 0#32 (x4 (ValueIdx.ix1 n))
    · rw [BitVec.sle_iff_toInt_le] at h1
      simpa using h1
    · simp [h1] at e'

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)

/-- Row `b`, `s` of the activations, in pairs. -/
def row (c : Dev Cert.KernelIdeal.nD) (b : Fin 6) (s : Fin 8) (k : Fin 3072) (p : Fin 2) : BitVec 8 :=
  m ((c.tc : Thread Cert.KernelIdeal.nD Cert.KernelIdeal.τ).loc Cert.KernelIdeal.main_arg0) (ValueIdx.ix3 b s ⟨k.val * 2 + p.val, by omega⟩)

/-- The kernel's result at a row and column is the reference's expression over that row and column. -/
theorem kOut_same (c : Dev Cert.KernelIdeal.nD) (r : Fin 48) (b : Fin 6) (s : Fin 8) (n : Fin 16384)
    (hb : r.val / 8 = b.val) (hs : r.val % 8 = s.val)
    (h₁ : -128 ≤ BitVec.toInt (m ((c.tc : Thread Cert.KernelIdeal.nD Cert.KernelIdeal.τ).loc Cert.KernelIdeal.main_arg1) ValueIdx.ix0))
    (h₂ : BitVec.toInt (m ((c.tc : Thread Cert.KernelIdeal.nD Cert.KernelIdeal.τ).loc Cert.KernelIdeal.main_arg1) ValueIdx.ix0) ≤ 127)
    (hm : 0 ≤ BitVec.toInt (m ((c.tc : Thread Cert.KernelIdeal.nD Cert.KernelIdeal.τ).loc Cert.KernelIdeal.main_arg4) (ValueIdx.ix1 n))) :
    Cert.KernelIdeal.Value.kOut m c r n = Words.rTail (Words.rHighMul (Words.rAcc (fun k => row m c b s k 0) (fun k => row m c b s k 1)
      (fun k => m ((c.tc : Thread Cert.KernelIdeal.nD Cert.KernelIdeal.τ).loc Cert.KernelIdeal.main_arg2) (ValueIdx.ix2 n k))
      (m ((c.tc : Thread Cert.KernelIdeal.nD Cert.KernelIdeal.τ).loc Cert.KernelIdeal.main_arg1) ValueIdx.ix0)
      (m ((c.tc : Thread Cert.KernelIdeal.nD Cert.KernelIdeal.τ).loc Cert.KernelIdeal.main_arg3) (ValueIdx.ix1 n)))
    (m ((c.tc : Thread Cert.KernelIdeal.nD Cert.KernelIdeal.τ).loc Cert.KernelIdeal.main_arg4) (ValueIdx.ix1 n)))
    (m ((c.tc : Thread Cert.KernelIdeal.nD Cert.KernelIdeal.τ).loc Cert.KernelIdeal.main_arg5) (ValueIdx.ix1 n))
    (m ((c.tc : Thread Cert.KernelIdeal.nD Cert.KernelIdeal.τ).loc Cert.KernelIdeal.main_arg6) ValueIdx.ix0)
    (m ((c.tc : Thread Cert.KernelIdeal.nD Cert.KernelIdeal.τ).loc Cert.KernelIdeal.main_arg7) ValueIdx.ix0)
    (m ((c.tc : Thread Cert.KernelIdeal.nD Cert.KernelIdeal.τ).loc Cert.KernelIdeal.main_arg8) ValueIdx.ix0) := by
  have hb' : r.val / 8 < 6 := by omega
  have hs' : r.val % 8 < 8 := by omega
  obtain rfl : b = ⟨r.val / 8, hb'⟩ := Fin.ext hb.symm
  obtain rfl : s = ⟨r.val % 8, hs'⟩ := Fin.ext hs.symm
  refine (Words.requant_eq _ _ _ _ _ _ hm).trans ?_
  exact congrArg (fun a => Words.rTail (Words.rHighMul a
    (m ((c.tc : Thread Cert.KernelIdeal.nD Cert.KernelIdeal.τ).loc Cert.KernelIdeal.main_arg4) (ValueIdx.ix1 n)))
    (m ((c.tc : Thread Cert.KernelIdeal.nD Cert.KernelIdeal.τ).loc Cert.KernelIdeal.main_arg5) (ValueIdx.ix1 n))
    (m ((c.tc : Thread Cert.KernelIdeal.nD Cert.KernelIdeal.τ).loc Cert.KernelIdeal.main_arg6) ValueIdx.ix0)
    (m ((c.tc : Thread Cert.KernelIdeal.nD Cert.KernelIdeal.τ).loc Cert.KernelIdeal.main_arg7) ValueIdx.ix0)
    (m ((c.tc : Thread Cert.KernelIdeal.nD Cert.KernelIdeal.τ).loc Cert.KernelIdeal.main_arg8) ValueIdx.ix0))
    (Words.acc_eq (N := 3072) (by norm_num) (row m c ⟨r.val / 8, hb'⟩ ⟨r.val % 8, hs'⟩) _ _ _ h₁ h₂)

/-- The two results are one array. -/
theorem same (hpre : Cert.Pre_KernelIdeal_quantised m) (c : Dev Cert.KernelIdeal.nD)
    (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (e2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (e3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (e4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (e5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (e6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (e7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (e8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) :
    Cert.ReferenceIdeal.Value.result (StableHlo.launchContents m' c)
      = Pipeline.afterTail₀ Cert.KernelIdeal.cfgs (Cert.KernelIdeal.Gen.dats m) 0 (Cert.KernelIdeal.Gen.V0 m)
          [Cert.KernelIdeal.Gen.hostOps1] c Cert.KernelIdeal.main_v25 := by
  obtain ⟨⟨h₁, h₂⟩, hm⟩ := pre_bounds _ _ _ _ _ _ _ _ _ (hpre c)
  rw [Cert.KernelIdeal.Value.tail_v25]
  funext j
  idx_vars j
  replace e0 : StableHlo.launchContents m' c (Proc.devRef .tc Cert.ReferenceIdeal.main_arg0) = _ := e0
  replace e1 : StableHlo.launchContents m' c (Proc.devRef .tc Cert.ReferenceIdeal.main_arg1) = _ := e1
  replace e2 : StableHlo.launchContents m' c (Proc.devRef .tc Cert.ReferenceIdeal.main_arg2) = _ := e2
  replace e3 : StableHlo.launchContents m' c (Proc.devRef .tc Cert.ReferenceIdeal.main_arg3) = _ := e3
  replace e4 : StableHlo.launchContents m' c (Proc.devRef .tc Cert.ReferenceIdeal.main_arg4) = _ := e4
  replace e5 : StableHlo.launchContents m' c (Proc.devRef .tc Cert.ReferenceIdeal.main_arg5) = _ := e5
  replace e6 : StableHlo.launchContents m' c (Proc.devRef .tc Cert.ReferenceIdeal.main_arg6) = _ := e6
  replace e7 : StableHlo.launchContents m' c (Proc.devRef .tc Cert.ReferenceIdeal.main_arg7) = _ := e7
  replace e8 : StableHlo.launchContents m' c (Proc.devRef .tc Cert.ReferenceIdeal.main_arg8) = _ := e8
  rw [Cert.ReferenceIdeal.Value.result_at, Cert.ReferenceIdeal.Value.high_at, Cert.ReferenceIdeal.Value.acc_at,
    e0, e1, e2, e3, e4, e5, e6, e7, e8]
  have ek : shapeCast Cert.KernelIdeal.S6x8x16384 (Cert.KernelIdeal.Value.kArr m c)
      Cert.KernelIdeal.Gen.shapeCasts_S48x16384_S6x8x16384 (ValueIdx.ix3 j0 j1 j2)
        = Cert.KernelIdeal.Value.kOut m c ⟨j0.val * 8 + j1.val, by omega⟩ j2 := by
    pointwise [Cert.KernelIdeal.Value.kArr]
  have hb : (j0.val * 8 + j1.val) / 8 = j0.val := by omega
  have hs : (j0.val * 8 + j1.val) % 8 = j1.val := by omega
  have ex0 : (fun k : Fin 3072 => m ((c.tc : Thread Cert.KernelIdeal.nD Cert.KernelIdeal.τ).loc Cert.KernelIdeal.main_arg0)
      (ValueIdx.ix3 j0 j1 ⟨2 * k.val, by omega⟩)) = fun k => row m c j0 j1 k 0 :=
    funext fun k => congrArg (fun i : Fin 6144 => m ((c.tc : Thread Cert.KernelIdeal.nD Cert.KernelIdeal.τ).loc Cert.KernelIdeal.main_arg0)
      (ValueIdx.ix3 j0 j1 i)) (Fin.ext (Nat.mul_comm 2 k.val))
  have ex1 : (fun k : Fin 3072 => m ((c.tc : Thread Cert.KernelIdeal.nD Cert.KernelIdeal.τ).loc Cert.KernelIdeal.main_arg0)
      (ValueIdx.ix3 j0 j1 ⟨1 + 2 * k.val, by omega⟩)) = fun k => row m c j0 j1 k 1 :=
    funext fun k => congrArg (fun i : Fin 6144 => m ((c.tc : Thread Cert.KernelIdeal.nD Cert.KernelIdeal.τ).loc Cert.KernelIdeal.main_arg0)
      (ValueIdx.ix3 j0 j1 i)) (Fin.ext ((Nat.add_comm 1 (2 * k.val)).trans (congrArg (· + 1) (Nat.mul_comm 2 k.val))))
  refine Eq.trans ?_ ((kOut_same m c _ j0 j1 j2 hb hs h₁ h₂ (hm j2)).symm.trans ek.symm)
  exact congrArg₂ (fun xe xo => Words.rTail (Words.rHighMul (Words.rAcc xe xo
      (fun k => m ((c.tc : Thread Cert.KernelIdeal.nD Cert.KernelIdeal.τ).loc Cert.KernelIdeal.main_arg2) (ValueIdx.ix2 j2 k))
      (m ((c.tc : Thread Cert.KernelIdeal.nD Cert.KernelIdeal.τ).loc Cert.KernelIdeal.main_arg1) ValueIdx.ix0)
      (m ((c.tc : Thread Cert.KernelIdeal.nD Cert.KernelIdeal.τ).loc Cert.KernelIdeal.main_arg3) (ValueIdx.ix1 j2)))
    (m ((c.tc : Thread Cert.KernelIdeal.nD Cert.KernelIdeal.τ).loc Cert.KernelIdeal.main_arg4) (ValueIdx.ix1 j2)))
    (m ((c.tc : Thread Cert.KernelIdeal.nD Cert.KernelIdeal.τ).loc Cert.KernelIdeal.main_arg5) (ValueIdx.ix1 j2))
    (m ((c.tc : Thread Cert.KernelIdeal.nD Cert.KernelIdeal.τ).loc Cert.KernelIdeal.main_arg6) ValueIdx.ix0)
    (m ((c.tc : Thread Cert.KernelIdeal.nD Cert.KernelIdeal.τ).loc Cert.KernelIdeal.main_arg7) ValueIdx.ix0)
    (m ((c.tc : Thread Cert.KernelIdeal.nD Cert.KernelIdeal.τ).loc Cert.KernelIdeal.main_arg8) ValueIdx.ix0)) ex0 ex1

end Cert.Same

end
-- ==== Proof.lean ====
/-
  The proof of `Cert.Claim`. The frames of the two kernels are the generated ones; the reference's is read off its run. The
  value claim is `Cert.Same.same` (Proof/Same.lean) between the runs of the idealized kernel and the reference.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_quantised
public import proofs.«01_k».proof.Proof.Same
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- The reference runs, its arguments end unchanged, and every counter ends at zero: it declares no semaphore. -/
theorem reference_frame : Cert.quiescent_ReferenceIdeal := by
  intro m g _
  refine (θ_run Cert.ReferenceIdeal.defs _ _).mono (fun r h => ⟨fun c => (h c).2, ?_⟩)
    (Cert.ReferenceIdeal.Value.run m g)
  exact sem_eq_zero_of_no_sems (sig := Cert.ReferenceIdeal.sig) rfl _

set_option maxHeartbeats 1600000 in
/-- From memories that agree on the arguments, with the zero point in [-128, 127] and no multiplier negative, the kernel
    and the reference both run, end with equal results, and leave their arguments unchanged. -/
theorem algebraic : Cert.algebraic_KernelIdeal_ReferenceIdeal_pre_quantised := by
  pair_intro
  · run_from Cert.KernelIdeal.Gen.run_main m g
    all_goals first
      | exact Cert.KernelIdeal.Gen.W_main_arg0 m (Cert.KernelIdeal.Gen.dats m) c
      | exact Cert.KernelIdeal.Gen.W_main_arg1 m (Cert.KernelIdeal.Gen.dats m) c
      | exact Cert.KernelIdeal.Gen.W_main_arg2 m (Cert.KernelIdeal.Gen.dats m) c
      | exact Cert.KernelIdeal.Gen.W_main_arg3 m (Cert.KernelIdeal.Gen.dats m) c
      | exact Cert.KernelIdeal.Gen.W_main_arg4 m (Cert.KernelIdeal.Gen.dats m) c
      | exact Cert.KernelIdeal.Gen.W_main_arg5 m (Cert.KernelIdeal.Gen.dats m) c
      | exact Cert.KernelIdeal.Gen.W_main_arg6 m (Cert.KernelIdeal.Gen.dats m) c
      | exact Cert.KernelIdeal.Gen.W_main_arg7 m (Cert.KernelIdeal.Gen.dats m) c
      | exact Cert.KernelIdeal.Gen.W_main_arg8 m (Cert.KernelIdeal.Gen.dats m) c
  · run_from Cert.ReferenceIdeal.Value.run m' g'
    obtain ⟨e0, e1, e2, e3, e4, e5, e6, e7, e8⟩ := hagree c
    rw [← e6, ← e7, ← e8]
    exact Cert.Same.same m m' hpre c e0 e1 e2 e3 e4 e5 e6 e7 e8

/-- Every claim. -/
theorem claim : Cert.Claim := ⟨Cert.Kernel.Gen.facts, Cert.KernelIdeal.Gen.facts, Cert.ReferenceIdeal.Gen.facts, Cert.Pre_quantised.Gen.facts,
  fun m g _ => Cert.Kernel.Gen.frame m g, fun m g _ => Cert.KernelIdeal.Gen.frame m g, fun m g _ => Cert.KernelIdeal.Gen.frame m g,
  reference_frame, fun m g _ => reference_frame m g trivial, trivial, algebraic⟩

end Cert.Proof

end
